-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v3_2)) (v4 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_v2_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34_0) = v0 c
          ∧ r.2.mem ((c.tc : Thread Cert.ReferenceIdeal.nD Cert.ReferenceIdeal.τ).loc Cert.ReferenceIdeal.main_v34_1) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v34_2) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x6144x1280 : Shape := ⟨3, ![4, 6144, 1280]⟩
abbrev S4x6144x5120 : Shape := ⟨3, ![4, 6144, 5120]⟩
abbrev S24576x1280 : Shape := ⟨2, ![24576, 1280]⟩
abbrev S24576x5120 : Shape := ⟨2, ![24576, 5120]⟩
abbrev S1 : Shape := ⟨1, ![1]⟩
abbrev S512x1280 : Shape := ⟨2, ![512, 1280]⟩
abbrev S512x5120 : Shape := ⟨2, ![512, 5120]⟩
abbrev S16x1280 : Shape := ⟨2, ![16, 1280]⟩
abbrev S16x5120 : Shape := ⟨2, ![16, 5120]⟩
abbrev S32x16x1280 : Shape := ⟨3, ![32, 16, 1280]⟩
abbrev S32x16x5120 : Shape := ⟨3, ![32, 16, 5120]⟩
abbrev S1x16x1280 : Shape := ⟨3, ![1, 16, 1280]⟩
abbrev S1x1x1 : Shape := ⟨3, ![1, 1, 1]⟩
abbrev S1x16x5120 : Shape := ⟨3, ![1, 16, 5120]⟩
abbrev S1280x5120 : Shape := ⟨2, ![1280, 5120]⟩
abbrev S1280x24576 : Shape := ⟨2, ![1280, 24576]⟩
abbrev S5120x24576 : Shape := ⟨2, ![5120, 24576]⟩
abbrev S2048x128 : Shape := ⟨2, ![2048, 128]⟩
abbrev S2048x512 : Shape := ⟨2, ![2048, 512]⟩
abbrev S1280x512 : Shape := ⟨2, ![1280, 512]⟩
abbrev S128x2048 : Shape := ⟨2, ![128, 2048]⟩
abbrev S512x2048 : Shape := ⟨2, ![512, 2048]⟩
abbrev S10x1280x512 : Shape := ⟨3, ![10, 1280, 512]⟩
abbrev S2x1280x2048 : Shape := ⟨3, ![2, 1280, 2048]⟩
abbrev S1x128x2048 : Shape := ⟨3, ![1, 128, 2048]⟩
abbrev S1x1280x2048 : Shape := ⟨3, ![1, 1280, 2048]⟩
abbrev S1280x2048 : Shape := ⟨2, ![1280, 2048]⟩
abbrev S1x1280x512 : Shape := ⟨3, ![1, 1280, 512]⟩

abbrev nBuf : Space → Nat
  | .hbm => 9
  | .vmem => 18
  | .smem => 4
  | _ => 0

abbrev bufTy : (tb : Table) → Fin (tcTables nBuf tb) → BufTy
  | .hbm, ⟨0, _⟩ => ⟨S4x6144x1280, .bf16⟩
  | .hbm, ⟨1, _⟩ => ⟨S4x6144x5120, .bf16⟩
  | .hbm, ⟨2, _⟩ => ⟨S24576x1280, .bf16⟩
  | .hbm, ⟨3, _⟩ => ⟨S24576x5120, .bf16⟩
  | .hbm, ⟨4, _⟩ => ⟨S1, .f32⟩
  | .hbm, ⟨5, _⟩ => ⟨S1, .f32⟩
  | .hbm, ⟨6, _⟩ => ⟨S1280x5120, .f32⟩
  | .hbm, ⟨7, _⟩ => ⟨S1280x24576, .fp8e4m3⟩
  | .hbm, ⟨8, _⟩ => ⟨S5120x24576, .fp8e5m2⟩
  | .local _ .vmem, ⟨0, _⟩ => ⟨S512x1280, .bf16⟩
  | .local _ .vmem, ⟨1, _⟩ => ⟨S512x1280, .bf16⟩
  | .local _ .vmem, ⟨2, _⟩ => ⟨S512x5120, .bf16⟩
  | .local _ .vmem, ⟨3, _⟩ => ⟨S512x5120, .bf16⟩
  | .local _ .vmem, ⟨4, _⟩ => ⟨S16x1280, .bf16⟩
  | .local _ .vmem, ⟨5, _⟩ => ⟨S16x5120, .bf16⟩
  | .local _ .vmem, ⟨6, _⟩ => ⟨S2048x128, .bf16⟩
  | .local _ .vmem, ⟨7, _⟩ => ⟨S2048x128, .bf16⟩
  | .local _ .vmem, ⟨8, _⟩ => ⟨S2048x512, .bf16⟩
  | .local _ .vmem, ⟨9, _⟩ => ⟨S2048x512, .bf16⟩
  | .local _ .vmem, ⟨10, _⟩ => ⟨S1280x512, .f32⟩
  | .local _ .vmem, ⟨11, _⟩ => ⟨S1280x512, .f32⟩
  | .local _ .vmem, ⟨12, _⟩ => ⟨S128x2048, .fp8e4m3⟩
  | .local _ .vmem, ⟨13, _⟩ => ⟨S128x2048, .fp8e4m3⟩
  | .local _ .vmem, ⟨14, _⟩ => ⟨S512x2048, .fp8e5m2⟩
  | .local _ .vmem, ⟨15, _⟩ => ⟨S512x2048, .fp8e5m2⟩
  | .local _ .vmem, ⟨16, _⟩ => ⟨S10x1280x512, .f32⟩
  | .local _ .vmem, ⟨17, _⟩ => ⟨S2x1280x2048, .fp8e4m3⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S4x6144x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc1_scratch1 : Ref sig .tc := ⟨.vmem, 17, rfl⟩
abbrev cc0_stg2_0 : Ref sig .tc := ⟨.smem, 0, rfl⟩
abbrev cc0_stg3_0 : Ref sig .tc := ⟨.smem, 1, rfl⟩
abbrev cc1_stg0_0 : Ref sig .tc := ⟨.smem, 2, rfl⟩
abbrev cc1_stg1_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![48], ![false]⟩

def k0_cond3 (i : grid0.Coords) : BitVec 1 :=
  let arg0 : BitVec 32 := BitVec.ofNat 32 (i 0).val
  let c47_i32 : BitVec 32 := 47#32
  let v16 : BitVec 1 := Scalar.cmpi .eq arg0 c47_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![13, 10], ![false, false]⟩

def k1_cond1 (i : grid1.Coords) : BitVec 1 :=
  let arg0 : BitVec 32 := BitVec.ofNat 32 (i 0).val
  let c1_i32 : BitVec 32 := 1#32
  let v0 : BitVec 32 := Scalar.subi arg0 c1_i32
  let c1_i32_0 : BitVec 32 := 1#32
  let v1 : BitVec 32 := Scalar.addi v0 c1_i32_0
  let c12_i32 : BitVec 32 := 12#32
  let v2 : BitVec 1 := Scalar.cmpi .slt v1 c12_i32
  let v3 : BitVec 32 := Scalar.extui v2
  let c0_i32 : BitVec 32 := 0#32
  let v4 : BitVec 1 := Scalar.cmpi .ne v3 c0_i32
  v4

def k1_off1 (i : grid1.Coords) : Fin 3 → Nat :=
  let arg0 : BitVec 32 := BitVec.ofNat 32 (i 0).val
  let c1_i32 : BitVec 32 := 1#32
  let v0 : BitVec 32 := Scalar.subi arg0 c1_i32
  let c1_i32_9 : BitVec 32 := 1#32
  let v22 : BitVec 32 := Scalar.addi v0 c1_i32_9
  let c2_i32 : BitVec 32 := 2#32
  let c0_i32_10 : BitVec 32 := 0#32
  let v23 : BitVec 1 := Scalar.cmpi .eq c2_i32 c0_i32_10
  let c1_i32_11 : BitVec 32 := 1#32
  let v24 : BitVec 32 := Scalar.select v23 c1_i32_11 c2_i32
  let v25 : BitVec 32 := Scalar.remsi v22 v24
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let c0_i32_12 : BitVec 32 := 0#32
  let v26 : BitVec 1 := Scalar.cmpi .ne v25 c0_i32_12
  let v30 : BitVec 1 := Scalar.andi v29 v26
  let v31 : BitVec 32 := Scalar.addi v25 v24
  let v32 : BitVec 32 := Scalar.select v30 v31 v25
  let v34 : Index := Scalar.indexCast v32
  let arg1 : BitVec 32 := BitVec.ofNat 32 (i 1).val
  let c128_i32 : BitVec 32 := 128#32
  let v33 : BitVec 32 := Scalar.muli arg1 c128_i32
  let v35 : Index := Scalar.indexCast v33
  let c0_15 : Index := 0#32
  ![v34.toNat, v35.toNat, 0]
def k1_cond2 (i : grid1.Coords) : BitVec 1 :=
  let arg0 : BitVec 32 := BitVec.ofNat 32 (i 0).val
  let c1_i32 : BitVec 32 := 1#32
  let v0 : BitVec 32 := Scalar.subi arg0 c1_i32
  let c0_i32_1 : BitVec 32 := 0#32
  let v5 : BitVec 1 := Scalar.cmpi .sge v0 c0_i32_1
  let v6 : BitVec 32 := Scalar.extui v5
  let c0_i32_2 : BitVec 32 := 0#32
  let v7 : BitVec 1 := Scalar.cmpi .ne v6 c0_i32_2
  v7

def k1_off2 (i : grid1.Coords) : Fin 3 → Nat :=
  let arg0 : BitVec 32 := BitVec.ofNat 32 (i 0).val
  let c1_i32 : BitVec 32 := 1#32
  let v0 : BitVec 32 := Scalar.subi arg0 c1_i32
  let c2_i32 : BitVec 32 := 2#32
  let c0_i32_11 : BitVec 32 := 0#32
  let v30 : BitVec 1 := Scalar.cmpi .eq c2_i32 c0_i32_11
  let c1_i32_12 : BitVec 32 := 1#32
  let v31 : BitVec 32 := Scalar.select v30 c1_i32_12 c2_i32
  let v32 : BitVec 32 := Scalar.remsi v0 v31
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let c0_i32_13 : BitVec 32 := 0#32
  let v33 : BitVec 1 := Scalar.cmpi .ne v32 c0_i32_13
  let v37 : BitVec 1 := Scalar.andi v36 v33
  let v38 : BitVec 32 := Scalar.addi v32 v31
  let v39 : BitVec 32 := Scalar.select v37 v38 v32
  let v40 : Index := Scalar.indexCast v39
  let c0_16 : Index := 0#32
  let c0_17 : Index := 0#32
  ![v40.toNat, 0, 0]
def k1_off3 (i : grid1.Coords) : Fin 3 → Nat :=
  let arg1 : BitVec 32 := BitVec.ofNat 32 (i 1).val
  let v45 : Index := Scalar.indexCast arg1
  let c0_20 : Index := 0#32
  let c0_21 : Index := 0#32
  ![v45.toNat, 0, 0]
def k1_cond3 (i : grid1.Coords) : BitVec 1 :=
  let arg0 : BitVec 32 := BitVec.ofNat 32 (i 0).val
  let c1_i32 : BitVec 32 := 1#32
  let v0 : BitVec 32 := Scalar.subi arg0 c1_i32
  let c11_i32 : BitVec 32 := 11#32
  let v54 : BitVec 1 := Scalar.cmpi .eq v0 c11_i32
  let v55 : BitVec 32 := Scalar.extui v54
  let c0_i32_24 : BitVec 32 := 0#32
  let v56 : BitVec 1 := Scalar.cmpi .ne v55 c0_i32_24
  v56

def k1_off4 (i : grid1.Coords) : Fin 3 → Nat :=
  let arg1 : BitVec 32 := BitVec.ofNat 32 (i 1).val
  let v57 : Index := Scalar.indexCast arg1
  let c0_25 : Index := 0#32
  let c0_26 : Index := 0#32
  ![v57.toNat, 0, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c11_i32 : BitVec 32 := 11#32
  let v1 : BitVec 32 := Scalar.minsi arg0 c11_i32
  let c9_i32 : BitVec 32 := 9#32
  let v2 : BitVec 32 := Scalar.select v0 c9_i32 arg1
  let c0_i32 : BitVec 32 := 0#32
  ![v1.toNat, v2.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc1_transform_4 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc1_transform_5 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 1 := Scalar.cmpi .eq arg0 c12_i32
  let c11_i32 : BitVec 32 := 11#32
  let v1 : BitVec 32 := Scalar.minsi arg0 c11_i32
  let c9_i32 : BitVec 32 := 9#32
  let v2 : BitVec 32 := Scalar.select v0 c9_i32 arg1
  let c0_i32 : BitVec 32 := 0#32
  ![v2.toNat, v1.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v3.toNat, v1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1280x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x2048 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x2048 .fp8e5m2 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S4x6144x1280 : Shape := ⟨3, ![4, 6144, 1280]⟩
abbrev S4x6144x5120 : Shape := ⟨3, ![4, 6144, 5120]⟩
abbrev S_ : Shape := ⟨0, ![]⟩
abbrev S1 : Shape := ⟨1, ![1]⟩
abbrev S1280x5120 : Shape := ⟨2, ![1280, 5120]⟩
abbrev S1280x24576 : Shape := ⟨2, ![1280, 24576]⟩
abbrev S5120x24576 : Shape := ⟨2, ![5120, 24576]⟩
abbrev S24576x1280 : Shape := ⟨2, ![24576, 1280]⟩
abbrev S24576x5120 : Shape := ⟨2, ![24576, 5120]⟩

abbrev nBuf : Space → Nat
  | .hbm => 63
  | .vmem => 5
  | .smem => 2
  | _ => 0

abbrev bufTy : (tb : Table) → Fin (tcTables nBuf tb) → BufTy
  | .hbm, ⟨0, _⟩ => ⟨S4x6144x1280, .bf16⟩
  | .hbm, ⟨1, _⟩ => ⟨S4x6144x5120, .bf16⟩
  | .hbm, ⟨2, _⟩ => ⟨S4x6144x1280, .f32⟩
  | .hbm, ⟨3, _⟩ => ⟨S4x6144x1280, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .i1⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S4x6144x5120, .f32⟩
  | .hbm, ⟨32, _⟩ => ⟨S4x6144x5120, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .i1⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S1, .f32⟩
  | .hbm, ⟨60, _⟩ => ⟨S1280x5120, .f32⟩
  | .hbm, ⟨61, _⟩ => ⟨S1280x24576, .fp8e4m3⟩
  | .hbm, ⟨62, _⟩ => ⟨S5120x24576, .fp8e5m2⟩
  | .local _ .vmem, ⟨0, _⟩ => ⟨S4x6144x1280, .bf16⟩
  | .local _ .vmem, ⟨1, _⟩ => ⟨S4x6144x5120, .bf16⟩
  | .local _ .vmem, ⟨2, _⟩ => ⟨S1280x5120, .f32⟩
  | .local _ .vmem, ⟨3, _⟩ => ⟨S1280x24576, .fp8e4m3⟩
  | .local _ .vmem, ⟨4, _⟩ => ⟨S5120x24576, .fp8e5m2⟩
  | .local _ .smem, ⟨0, _⟩ => ⟨S1, .f32⟩
  | .local _ .smem, ⟨1, _⟩ => ⟨S1, .f32⟩
  | _, _ => ⟨S4x6144x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_call0_v0 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_cst_7 : Ref sig .tc := ⟨.hbm, 25, rfl⟩
abbrev main_v14 : Ref sig .tc := ⟨.hbm, 26, rfl⟩
abbrev main_cst_8 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_9 : Ref sig .tc := ⟨.hbm, 33, rfl⟩
abbrev main_v19 : Ref sig .tc := ⟨.hbm, 34, rfl⟩
abbrev main_cst_10 : Ref sig .tc := ⟨.hbm, 35, rfl⟩
abbrev main_v20 : Ref sig .tc := ⟨.hbm, 36, rfl⟩
abbrev main_v21 : Ref sig .tc := ⟨.hbm, 37, rfl⟩
abbrev main_cst_11 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_12 : Ref sig .tc := ⟨.hbm, 42, rfl⟩
abbrev main_v25 : Ref sig .tc := ⟨.hbm, 43, rfl⟩
abbrev main_cst_13 : Ref sig .tc := ⟨.hbm, 44, rfl⟩
abbrev main_v26 : Ref sig .tc := ⟨.hbm, 45, rfl⟩
abbrev main_cst_14 : Ref sig .tc := ⟨.hbm, 46, rfl⟩
abbrev main_v27 : Ref sig .tc := ⟨.hbm, 47, rfl⟩
abbrev main_v28 : Ref sig .tc := ⟨.hbm, 48, rfl⟩
abbrev main_cst_15 : Ref sig .tc := ⟨.hbm, 49, rfl⟩
abbrev main_call2_v0 : Ref sig .tc := ⟨.hbm, 50, rfl⟩
abbrev main_v29 : Ref sig .tc := ⟨.hbm, 51, rfl⟩
abbrev main_cst_16 : Ref sig .tc := ⟨.hbm, 52, rfl⟩
abbrev main_v30 : Ref sig .tc := ⟨.hbm, 53, rfl⟩
abbrev main_cst_17 : Ref sig .tc := ⟨.hbm, 54, rfl⟩
abbrev main_v31 : Ref sig .tc := ⟨.hbm, 55, rfl⟩
abbrev main_cst_18 : Ref sig .tc := ⟨.hbm, 56, rfl⟩
abbrev main_call3_v0 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x6144x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x6144x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x24576 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x24576 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.AmaxRunsBits.lean ====
/- What the body of the maximum kernel leaves in the buffers it is handed, control case by control case. -/
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Amax

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scale of a maximum -/

/-- One step of the search for the exponent field: add `k` to the field when the power of two it then stands for is at most `t`. -/
def step (t : F .f32) (b k : BitVec 32) : BitVec 32 :=
  Scalar.select (Scalar.cmpf .oge t (Scalar.ofBits .f32 (Scalar.shli (Scalar.addi b k) 23#32))) (Scalar.addi b k) b

/-- The exponent field, found bit by bit. -/
def field (t : F .f32) : BitVec 32 :=
  step t (step t (step t (step t (step t (step t (step t (step t 0#32 128#32) 64#32) 32#32) 16#32) 8#32) 4#32) 2#32) 1#32

/-- The scale an exponent field gives: two to the exponent plus one, and 1 for the two special fields. -/
def scaleOfField (b : BitVec 32) : F .f32 :=
  Scalar.ofBits .f32 (Scalar.shli (Scalar.addi (Scalar.select (Scalar.ori (Scalar.cmpi .eq b 0#32) (Scalar.cmpi .eq b 255#32)) 0#32 (Scalar.subi b 126#32)) 127#32) 23#32)

/-- The scale of x from the running maxima, and the scale of dy. -/
def xScale (v : Vec F S16x1280 .bf16) : F .f32 := scaleOfField (F := F) (field (k0_pay9 v))
def dyScale (v : Vec F S16x5120 .bf16) : F .f32 := scaleOfField (F := F) (field (k0_pay15 (k0_pay8 v)))

/-- Equal contents have equal windows. -/
theorem window_congr {α : Type} {s : Shape} {x x' : s.Idx → α} {off size : Fin s.rank → ℕ} (inb : ∀ a, off a + size a ≤ s.size a) (hx : x = x') :
    VecWindow.window x off size inb = VecWindow.window x' off size inb := by rw [hx]

/-- A load of the window just stored, whatever the contents below, reads the payload. -/
theorem readCov_same {sg : RefSig} {κ : Kind} {sp : Space} {s : Shape} {e : EltTy} (v : View sg κ sp s e) {off off' off'' size : Fin s.rank → ℕ} (inb : ∀ a, off a + size a ≤ s.size a)
    (inb' : ∀ a, off' a + size a ≤ s.size a) (inb'' : ∀ a, off'' a + size a ≤ s.size a) (h : off = off'') (h' : off' = off'') (w : (Rect.unit off' size inb').shape.Idx → Elt F e) :
    v.readCov [⟨Rect.unit off' size inb', w⟩] (Rect.unit off size inb).toLoadRect = w := by
  subst h; subst h'
  refine (View.readAt_unit v _ inb rfl inb'').trans ((window_congr inb'' (View.read_writes_cons_put v v.junk inb w [] rfl)).trans ?_)
  exact VecWindow.window_put_same _ _ _ inb'' _

/-! ## The branch conditions -/

/-- The first point starts the maxima, the later ones continue them, the last one makes the scales. -/
abbrev first (i : grid0.Coords) : Prop := (Scalar.cmpi .ne (Scalar.extui (Scalar.cmpi .eq (BitVec.ofNat 32 (i 0).val) 0#32)) 0#32) = 1#1
abbrev later (i : grid0.Coords) : Prop := (Scalar.cmpi .ne (Scalar.extui (Scalar.cmpi .sgt (BitVec.ofNat 32 (i 0).val) 0#32)) 0#32) = 1#1

set_option maxHeartbeats 1000000 in
/-- The first point: the maxima over the first blocks. -/
theorem run_A (c : Dev nD) (i : grid0.Coords) (arg1 : Memref sig .tc .vmem S512x1280 .bf16) (harg1 : arg1.IsWhole) (arg2 : Memref sig .tc .vmem S512x5120 .bf16) (harg2 : arg2.IsWhole) (arg3 : Memref sig .tc .smem S1 .f32) (harg3 : arg3.IsWhole) (arg4 : Memref sig .tc .smem S1 .f32) (harg4 : arg4.IsWhole) (arg5 : Memref sig .tc .vmem S16x1280 .bf16) (harg5 : arg5.IsWhole) (arg6 : Memref sig .tc .vmem S16x5120 .bf16) (harg6 : arg6.IsWhole)
    (hc0 : first i) (hc1 : ¬ later i) (hc2 : ¬ k0_cond3 i = 1#1)
    (x0 : Vec F S512x1280 .bf16) (x1 : Vec F S512x5120 .bf16)
    (E : Set ℕ) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg5 fullShare (k0_pay3 x0) ∗ owns (c : Thread nD τ) arg6 fullShare (k0_pay4 x1)) -∗ K ⟨⟩))
      ⊢ wp frame (wpE (defs₀ (F := F)) Variants.none c none) E (cc0_amax i arg1 harg1 arg2 harg2 arg3 harg3 arg4 harg4 arg5 harg5 arg6 harg6) K := by
  simp only [cc0_amax_eq_skeleton]; unfold cc0_amax_skel
  simp only [k0_part1_eq_skeleton, k0_part2_eq_skeleton, k0_part3_eq_skeleton]
  unfold owns
  iintro ⟨⟨%f1, %hf1, H1⟩, ⟨%f2, %hf2, H2⟩, ⟨%d5, %f5, -, H5⟩, ⟨%d6, %f6, -, H6⟩, Hk⟩
  sl_exec (disch := first | sl_exact hc0 | sl_exact hc1 | sl_exact hc2)
  sl_step
  iapply Hk
  isplitl [H1]
  · iexists _; isplitr; swap; · iexact H1
    ipureintro; exact hf1
  isplitl [H2]
  · iexists _; isplitr; swap; · iexact H2
    ipureintro; exact hf2
  isplitl [H5]
  · iexists _; isplitr; swap; · iexact H5
    ipureintro
    exact (View.read_writes_full _ _ _ _ _).trans (congrArg k0_pay3 ((View.readAt_full arg1.view f1 inb_S512x1280_S512x1280_0_0).trans hf1))
  iexists _; isplitr; swap; · iexact H6
  ipureintro
  exact (View.read_writes_full _ _ _ _ _).trans (congrArg k0_pay4 ((View.readAt_full arg2.view f2 inb_S512x5120_S512x5120_0_0).trans hf2))

set_option maxHeartbeats 1000000 in
/-- A middle point: the running maxima are continued. -/
theorem run_B (c : Dev nD) (i : grid0.Coords) (arg1 : Memref sig .tc .vmem S512x1280 .bf16) (harg1 : arg1.IsWhole) (arg2 : Memref sig .tc .vmem S512x5120 .bf16) (harg2 : arg2.IsWhole) (arg3 : Memref sig .tc .smem S1 .f32) (harg3 : arg3.IsWhole) (arg4 : Memref sig .tc .smem S1 .f32) (harg4 : arg4.IsWhole) (arg5 : Memref sig .tc .vmem S16x1280 .bf16) (harg5 : arg5.IsWhole) (arg6 : Memref sig .tc .vmem S16x5120 .bf16) (harg6 : arg6.IsWhole)
    (hc0 : ¬ first i) (hc1 : later i) (hc2 : ¬ k0_cond3 i = 1#1)
    (x0 : Vec F S512x1280 .bf16) (x1 : Vec F S512x5120 .bf16) (s0 : Vec F S16x1280 .bf16) (s1 : Vec F S16x5120 .bf16)
    (E : Set ℕ) (K : PUnit → sProp 𝕄) :
    iprop(owns (c : Thread nD τ) arg1 fullShare x0 ∗ owns (c : Thread nD τ) arg2 fullShare x1 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg5 fullShare (k0_pay5 x0 s0) ∗ owns (c : Thread nD τ) arg6 fullShare (k0_pay6 x1 s1)) -∗ K ⟨⟩))
      ⊢ wp frame (wpE (defs₀ (F := F)) Variants.none c none) E (cc0_amax i arg1 harg1 arg2 harg2 arg3 harg3 arg4 harg4 arg5 harg5 arg6 harg6) K := by
  simp only [cc0_amax_eq_skeleton]; unfold cc0_amax_skel
  simp only [k0_part1_eq_skeleton, k0_part2_eq_skeleton, k0_part3_eq_skeleton]
  unfold owns
  iintro ⟨⟨%f1, %hf1, H1⟩, ⟨%f2, %hf2, H2⟩, ⟨%f5, %hf5, H5⟩, ⟨%f6, %hf6, H6⟩, Hk⟩
  sl_exec (disch := first | sl_exact hc0 | sl_exact hc1 | sl_exact hc2)
  sl_step
  iapply Hk
  isplitl [H1]
  · iexists _; isplitr; swap; · iexact H1
    ipureintro; exact hf1
  isplitl [H2]
  · iexists _; isplitr; swap; · iexact H2
    ipureintro; exact hf2
  isplitl [H5]
  · iexists _; isplitr; swap; · iexact H5
    ipureintro
    exact (View.read_writes_full _ _ _ _ _).trans (congrArg₂ k0_pay5 ((View.readAt_full arg1.view f1 inb_S512x1280_S512x1280_0_0).trans hf1) ((View.readAt_full arg5.view f5 inb_S16x1280_S16x1280_0_0).trans hf5))
  iexists _; isplitr; swap; · iexact H6
  ipureintro
  exact (View.read_writes_full _ _ _ _ _).trans (congrArg₂ k0_pay6 ((View.readAt_full arg2.view f2 inb_S512x5120_S512x5120_0_0).trans hf2) ((View.readAt_full arg6.view f6 inb_S16x5120_S16x5120_0_0).trans hf6))

set_option maxHeartbeats 1000000 in
/-- The last point: the running maxima are continued and the two scales are made of them. -/
theorem run_C (c : Dev nD) (i : grid0.Coords) (arg1 : Memref sig .tc .vmem S512x1280 .bf16) (harg1 : arg1.IsWhole) (arg2 : Memref sig .tc .vmem S512x5120 .bf16) (harg2 : arg2.IsWhole) (arg3 : Memref sig .tc .smem S1 .f32) (harg3 : arg3.IsWhole) (arg4 : Memref sig .tc .smem S1 .f32) (harg4 : arg4.IsWhole) (arg5 : Memref sig .tc .vmem S16x1280 .bf16) (harg5 : arg5.IsWhole) (arg6 : Memref sig .tc .vmem S16x5120 .bf16) (harg6 : arg6.IsWhole)
    (hc0 : ¬ first i) (hc1 : later i) (hc2 : k0_cond3 i = 1#1)
    (x0 : Vec F S512x1280 .bf16) (x1 : Vec F S512x5120 .bf16) (s0 : Vec F S16x1280 .bf16) (s1 : Vec F S16x5120 .bf16)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (fun _ => xScale (k0_pay5 x0 s0)) ∗ owns (c : Thread nD τ) arg4 fullShare (fun _ => dyScale (k0_pay6 x1 s1)) ∗ owns (c : Thread nD τ) arg5 fullShare (k0_pay5 x0 s0) ∗ owns (c : Thread nD τ) arg6 fullShare (k0_pay6 x1 s1)) -∗ K ⟨⟩))
      ⊢ wp frame (wpE (defs₀ (F := F)) Variants.none c none) E (cc0_amax i arg1 harg1 arg2 harg2 arg3 harg3 arg4 harg4 arg5 harg5 arg6 harg6) K := by
  simp only [cc0_amax_eq_skeleton]; unfold cc0_amax_skel
  simp only [k0_part1_eq_skeleton, k0_part2_eq_skeleton, k0_part3_eq_skeleton]
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  sl_exec (disch := first | sl_exact hc0 | sl_exact hc1 | sl_exact hc2)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [View.read_writes_full]
    refine funext fun _ => (show _ = xScale (run_C.sl.v19 c arg1 arg5 f1 f5) from rfl).trans (congrArg xScale ?_)
    unfold run_C.sl.v19
    exact (readCov_same arg5.view _ _ inb_S16x1280_S16x1280_0_0 rfl rfl _).trans (congrArg₂ k0_pay5 ((View.readAt_full arg1.view f1 inb_S512x1280_S512x1280_0_0).trans hf1) ((View.readAt_full arg5.view f5 inb_S16x1280_S16x1280_0_0).trans hf5))
  isplitl [H4]
  · iexists _; isplitr; swap; · iexact H4
    ipureintro
    rw [View.read_writes_full]
    refine funext fun _ => (show _ = dyScale (run_C.sl.v25 c arg2 arg6 f2 f6) from rfl).trans (congrArg dyScale ?_)
    unfold run_C.sl.v25
    exact (readCov_same arg6.view _ _ inb_S16x5120_S16x5120_0_0 rfl rfl _).trans (congrArg₂ k0_pay6 ((View.readAt_full arg2.view f2 inb_S512x5120_S512x5120_0_0).trans hf2) ((View.readAt_full arg6.view f6 inb_S16x5120_S16x5120_0_0).trans hf6))
  isplitl [H5]
  · iexists _; isplitr; swap; · iexact H5
    ipureintro
    exact (View.read_writes_full _ _ _ _ _).trans (congrArg₂ k0_pay5 ((View.readAt_full arg1.view f1 inb_S512x1280_S512x1280_0_0).trans hf1) ((View.readAt_full arg5.view f5 inb_S16x1280_S16x1280_0_0).trans hf5))
  iexists _; isplitr; swap; · iexact H6
  ipureintro
  exact (View.read_writes_full _ _ _ _ _).trans (congrArg₂ k0_pay6 ((View.readAt_full arg2.view f2 inb_S512x5120_S512x5120_0_0).trans hf2) ((View.readAt_full arg6.view f6 inb_S16x5120_S16x5120_0_0).trans hf6))

end Cert.Kernel.Amax

end
-- ==== Proof.AmaxFrameBits.lean ====
/- The whole run of the maximum kernel, point by point: the running maxima, the proof data of its pipeline and its body obligation. -/
module

public import proofs.«01_k».proof.Proof.AmaxRunsBits

@[expose] public section

set_option maxRecDepth 16384

noncomputable section

namespace Cert.Kernel.Amax

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

theorem first_iff : ∀ t : Fin grid0.N, first (grid0.coords t) ↔ t.val = 0 := by decide +kernel
theorem later_iff : ∀ t : Fin grid0.N, later (grid0.coords t) ↔ 1 ≤ t.val := by decide +kernel
theorem last_iff : ∀ t : Fin grid0.N, k0_cond3 (grid0.coords t) = 1#1 ↔ t.val = 47 := by decide +kernel

/-- The scales' buffers are left alone but at the last point, and written back there only. -/
theorem idle2 : ∀ t : Fin grid0.N, idle0 2 (grid0.coords t) = decide (t.val < 47) := by decide +kernel
theorem idle3 : ∀ t : Fin grid0.N, idle0 3 (grid0.coords t) = decide (t.val < 47) := by decide +kernel
theorem flush2 : ∀ t : Fin grid0.N, win0_2.flush t = true ↔ t.val = 47 := by decide +kernel
theorem flush3 : ∀ t : Fin grid0.N, win0_3.flush t = true ↔ t.val = 47 := by decide +kernel

theorem lt_N (t : Fin cfg0.N) : t.val < 48 := lt_of_lt_of_eq t.isLt N_0

/-- The point numbered `n` (below 48). -/
abbrev pt (n : ℕ) : Fin cfg0.N := ⟨n % 48, lt_of_lt_of_eq (Nat.mod_lt _ (by decide)) N_0.symm⟩
theorem pt_self (t : Fin cfg0.N) : pt t.val = t := Fin.ext (Nat.mod_eq_of_lt (lt_N t))

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running maxima -/

/-- The blocks of x and of dy at a point. -/
abbrev xb (c : Dev nD) (t : Fin cfg0.N) : Vec F S512x1280 .bf16 := iblk V c 0 t
abbrev db (c : Dev nD) (t : Fin cfg0.N) : Vec F S512x5120 .bf16 := iblk V c 1 t

/-- The running maxima of x after point `n`. -/
def mx (c : Dev nD) : ℕ → Vec F S16x1280 .bf16
  | 0 => k0_pay3 (xb V c (pt 0))
  | n + 1 => k0_pay5 (xb V c (pt (n + 1))) (mx c n)

/-- The running maxima of dy after point `n`. -/
def my (c : Dev nD) : ℕ → Vec F S16x5120 .bf16
  | 0 => k0_pay4 (db V c (pt 0))
  | n + 1 => k0_pay6 (db V c (pt (n + 1))) (my c n)

theorem mx_zero (c : Dev nD) (t : Fin cfg0.N) (h : t.val = 0) : k0_pay3 (iblk V c 0 t) = mx V c t.val := by
  rw [← pt_self t, h]; rfl
theorem my_zero (c : Dev nD) (t : Fin cfg0.N) (h : t.val = 0) : k0_pay4 (iblk V c 1 t) = my V c t.val := by
  rw [← pt_self t, h]; rfl
theorem mx_pos (c : Dev nD) (t : Fin cfg0.N) (h : 1 ≤ t.val) : k0_pay5 (iblk V c 0 t) (mx V c (t.val - 1)) = mx V c t.val := by
  obtain ⟨n, hn⟩ : ∃ n, t.val = n + 1 := ⟨t.val - 1, by omega⟩
  rw [show iblk V c 0 t = iblk V c 0 (pt (n + 1)) by rw [← hn, pt_self], hn]; rfl
theorem my_pos (c : Dev nD) (t : Fin cfg0.N) (h : 1 ≤ t.val) : k0_pay6 (iblk V c 1 t) (my V c (t.val - 1)) = my V c t.val := by
  obtain ⟨n, hn⟩ : ∃ n, t.val = n + 1 := ⟨t.val - 1, by omega⟩
  rw [show iblk V c 1 t = iblk V c 1 (pt (n + 1)) by rw [← hn, pt_self], hn]; rfl

/-! ## The invariant and the proof data -/

/-- The scratch operands: the running maxima of x and of dy. -/
abbrev scM0_0 : Memref sig .tc .vmem S16x1280 .bf16 := Memref.whole cc0_scratch0
abbrev scM0_1 : Memref sig .tc .vmem S16x5120 .bf16 := Memref.whole cc0_scratch1

/-- A scoped buffer of the other call, whole at some contents. -/
abbrev anyAt (c : Dev nD) (b : Ref sig .tc) : sProp 𝕄 := iprop(∃ f : Buf (Elt F) ((c : Thread nD τ).loc b), ((c : Thread nD τ).loc b) ↦{fullShare} f)

/-- The scoped buffers that ride along: those of the other call. -/
abbrev Rest (c : Dev nD) : sProp 𝕄 := iprop(anyAt c cc1_stg2_0 ∗ anyAt c cc1_stg2_1 ∗ anyAt c cc1_stg3_0 ∗ anyAt c cc1_stg3_1 ∗ anyAt c cc1_stg4_0 ∗ anyAt c cc1_stg4_1 ∗ anyAt c cc1_stg5_0 ∗ anyAt c cc1_stg5_1 ∗ anyAt c cc1_stg6_0 ∗ anyAt c cc1_stg6_1 ∗ anyAt c cc1_scratch0 ∗ anyAt c cc1_scratch1 ∗ anyAt c cc1_stg0_0 ∗ anyAt c cc1_stg1_0)

/-- What the launch hands the region, with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest c) ∗ (∃ r, prngReg c r)) := by
  unfold Pipeline.ΦA
  rw [Pipeline.scopedRest_eq_of_list spec0 c [cc0_scratch0, cc0_scratch1, cc1_stg2_0, cc1_stg2_1, cc1_stg3_0, cc1_stg3_1, cc1_stg4_0, cc1_stg4_1, cc1_stg5_0, cc1_stg5_1, cc1_stg6_0, cc1_stg6_1, cc1_scratch0, cc1_scratch1, cc1_stg0_0, cc1_stg1_0] (by decide) (by decide)]
  simp only [scM0_0, scM0_1, owns_whole]; try rfl

/-- The region's invariant before point `n`: from the second point on the scratch at the running maxima. -/
def PhiS (c : Dev nD) (n : ℕ) (_ : n ≤ cfg0.N) : sProp 𝕄 :=
  iprop(∃ a, ∃ b, ⌜1 ≤ n → a = mx V c (n - 1) ∧ b = my V c (n - 1)⌝ ∗ owns (c : Thread nD τ) scM0_0 fullShare a ∗ owns (c : Thread nD τ) scM0_1 fullShare b ∗ Rest c ∗ (∃ r, prngReg c r))

/-- The proof data: the arrays as the region finds them; after the body each input's buffer at its block, each scale's at the
    scale of the running maxima. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => fun _ => xScale (mx V c t.val)
    | ⟨3, _⟩ => fun _ => dyScale (my V c t.val)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = fun _ => xScale (mx V c t.val) := by dsimp only [dat]
theorem after0_3 (c : Dev nD) (t : Fin cfg0.N) : (dat V c).after 3 t = fun _ => dyScale (my V c t.val) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- An input's buffer is left at its block. -/
theorem leaves0 (c : Dev nD) (t : Fin cfg0.N) : (dat V c).leavesExact 0 t = owns (c : Thread nD τ) (st0_0 t) fullShare (iblk V c 0 t) := by
  unfold Dat.leavesExact; rw [show cfg0.idle 0 (cfg0.grid.coords t) = false from rfl]; dsimp only; rw [after0_0]
theorem leaves1 (c : Dev nD) (t : Fin cfg0.N) : (dat V c).leavesExact 1 t = owns (c : Thread nD τ) (st0_1 t) fullShare (iblk V c 1 t) := by
  unfold Dat.leavesExact; rw [show cfg0.idle 1 (cfg0.grid.coords t) = false from rfl]; dsimp only; rw [after0_1]

/-- A scale's buffer at the last point. -/
theorem leaves2_live (c : Dev nD) (t : Fin cfg0.N) (h : t.val = 47) : (dat V c).leavesExact 2 t = owns (c : Thread nD τ) (st0_2 t) fullShare (fun _ => xScale (mx V c t.val)) := by
  unfold Dat.leavesExact
  rw [show cfg0.idle 2 (cfg0.grid.coords t) = false from (idle2 t).trans (decide_eq_false (by omega))]; dsimp only; rw [after0_2]
theorem leaves3_live (c : Dev nD) (t : Fin cfg0.N) (h : t.val = 47) : (dat V c).leavesExact 3 t = owns (c : Thread nD τ) (st0_3 t) fullShare (fun _ => dyScale (my V c t.val)) := by
  unfold Dat.leavesExact
  rw [show cfg0.idle 3 (cfg0.grid.coords t) = false from (idle3 t).trans (decide_eq_false (by omega))]; dsimp only; rw [after0_3]

/-- A scale's buffer at the other points. -/
theorem leaves2_idle (c : Dev nD) (t : Fin cfg0.N) (h : t.val < 47) :
    (dat V c).leavesExact 2 t = iprop(∃ d, owns (c : Thread nD τ) (st0_2 t) fullShare ((dat V c).before 2 t d)) :=
  (dat V c).leavesExact_idle 2 t ((idle2 t).trans (decide_eq_true h)) (Bool.eq_false_iff.mpr fun h' => absurd ((flush2 t).mp h') (by omega))
theorem leaves3_idle (c : Dev nD) (t : Fin cfg0.N) (h : t.val < 47) :
    (dat V c).leavesExact 3 t = iprop(∃ d, owns (c : Thread nD τ) (st0_3 t) fullShare ((dat V c).before 3 t d)) :=
  (dat V c).leavesExact_idle 3 t ((idle3 t).trans (decide_eq_true h)) (Bool.eq_false_iff.mpr fun h' => absurd ((flush3 t).mp h') (by omega))

set_option maxHeartbeats 4800000 in
/-- The body at any point: the first, a middle or the last one, the scratch at the invariant before and after. -/
theorem sound_body (c : Dev nD) (t : Fin cfg0.N) :
    bodyPre V c t ⊢ wp frame (wpE (defs₀ (F := F)) Variants.none c none) Set.univ (bodyAt0 t) (fun _ => bodyPost V c t) := by
  have hN := lt_N t
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_castSucc V c t]
  rw [leaves0, leaves1]
  unfold PhiS
  by_cases h0 : t.val = 0
  · rw [leaves2_idle V c t (by omega), leaves3_idle V c t (by omega)]
    iintro ⟨⟨%a, %b, %hI, HS0, HS1, Hg⟩, Ho, ⟨%d0, H0⟩, ⟨%d1, H1⟩, H2, H3⟩
    iapply (run_A c (grid0.coords t) _ _ _ _ _ _ _ _ _ _ _ _ ((first_iff t).mpr h0) (fun h => absurd ((later_iff t).mp h) (by omega)) (fun h => absurd ((last_iff t).mp h) (by omega))
      (iblk V c 0 t) (iblk V c 1 t) Set.univ _)
    isplitl [H0]; · iexact H0
    isplitl [H1]; · iexact H1
    isplitl [HS0]; · iexists _; iexact HS0
    isplitl [HS1]; · iexists _; iexact HS1
    iintro ⟨H0, H1, HS0, HS1⟩
    isplitl [HS0 HS1 Hg]
    · iexists _; iexists _
      isplitr; swap
      · isplitl [HS0]; · iexact HS0
        isplitl [HS1]; · iexact HS1
        iexact Hg
      ipureintro
      exact fun _ => ⟨mx_zero V c t h0, my_zero V c t h0⟩
    isplitl [Ho]; · iexact Ho
    isplitl [H0]; · iexact H0
    isplitl [H1]; · iexact H1
    isplitl [H2]; · iexact H2
    iexact H3
  · have h1 : 1 ≤ t.val := by omega
    by_cases h2 : t.val = 47
    · rw [leaves2_live V c t h2, leaves3_live V c t h2]
      iintro ⟨⟨%a, %b, %hI, HS0, HS1, Hg⟩, Ho, ⟨%d0, H0⟩, ⟨%d1, H1⟩, ⟨%d2, H2⟩, ⟨%d3, H3⟩⟩
      obtain ⟨rfl, rfl⟩ := hI h1
      iapply (run_C c (grid0.coords t) _ _ _ _ _ _ _ _ _ _ _ _ (fun h => absurd ((first_iff t).mp h) h0) ((later_iff t).mpr h1) ((last_iff t).mpr h2)
        (iblk V c 0 t) (iblk V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hg]
      · iexists _; iexists _
        isplitr; swap
        · isplitl [HS0]; · iexact HS0
          isplitl [HS1]; · iexact HS1
          iexact Hg
        ipureintro
        exact fun _ => ⟨mx_pos V c t h1, my_pos V c t h1⟩
      isplitl [Ho]; · iexact Ho
      isplitl [H0]; · iexact H0
      isplitl [H1]; · iexact H1
      isplitl [H2]
      · rw [← mx_pos V c t (by omega)]; iexact H2
      rw [← my_pos V c t (by omega)]; iexact H3
    · rw [leaves2_idle V c t (by omega), leaves3_idle V c t (by omega)]
      iintro ⟨⟨%a, %b, %hI, HS0, HS1, Hg⟩, Ho, ⟨%d0, H0⟩, ⟨%d1, H1⟩, H2, H3⟩
      obtain ⟨rfl, rfl⟩ := hI h1
      iapply (run_B c (grid0.coords t) _ _ _ _ _ _ _ _ _ _ _ _ (fun h => absurd ((first_iff t).mp h) h0) ((later_iff t).mpr h1) (fun h => absurd ((last_iff t).mp h) h2)
        (iblk V c 0 t) (iblk V c 1 t) _ _ Set.univ _)
      isplitl [H0]; · iexact H0
      isplitl [H1]; · iexact H1
      isplitl [HS0]; · iexact HS0
      isplitl [HS1]; · iexact HS1
      iintro ⟨H0, H1, HS0, HS1⟩
      isplitl [HS0 HS1 Hg]
      · iexists _; iexists _
        isplitr; swap
        · isplitl [HS0]; · iexact HS0
          isplitl [HS1]; · iexact HS1
          iexact Hg
        ipureintro
        exact fun _ => ⟨mx_pos V c t h1, my_pos V c t h1⟩
      isplitl [Ho]; · iexact Ho
      isplitl [H0]; · iexact H0
      isplitl [H1]; · iexact H1
      isplitl [H2]; · iexact H2
      iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region is the invariant before the first point; -/
theorem hin (c : Dev nD) : Pipeline.ΦA spec0 c ⊢ (dat V c).Φ 0 := by
  rw [show (dat V c).Φ 0 = PhiS V c 0 (Nat.zero_le _) from rfl, PhiA0_eq]
  unfold PhiS
  iintro ⟨⟨⟨%a, HS0⟩, ⟨%b, HS1⟩, Hr⟩, Hg⟩
  iexists a; iexists b
  isplitr; swap
  · isplitl [HS0]; · iexact HS0
    isplitl [HS1]; · iexact HS1
    isplitl [Hr]; · iexact Hr
    iexact Hg
  ipureintro
  exact fun h => absurd h (Nat.not_succ_le_zero _)

/-- after the last point the invariant gives it back. -/
theorem hout (c : Dev nD) : (dat V c).Φ (Fin.last cfg0.N) ⊢ Pipeline.ΦA spec0 c := by
  rw [show (dat V c).Φ (Fin.last cfg0.N) = PhiS V c cfg0.N le_rfl from rfl, PhiA0_eq]
  unfold PhiS
  iintro ⟨%a, %b, -, HS0, HS1, Hr, Hg⟩
  isplitl [HS0 HS1 Hr]
  · isplitl [HS0]
    · iexists _; iexact HS0
    isplitl [HS1]
    · iexists _; iexact HS1
    iexact Hr
  iexact Hg

end Cert.Kernel.Amax

end
-- ==== Proof.ProductRunsBits.lean ====
/- What the body of the product kernel leaves in the buffers it is handed, control case by control case. -/
module

public import proofs.«01_k».proof.Proof.Gen.Kernel.Launch
public import proofs.«01_k».proof.Proof.Gen.Kernel.Points
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Product

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one element of a one-element array. -/
abbrev sc (x : Vec F S1 .f32) : Elt F .f32 := x (Shape.Idx.first (by decide : 0 < S1.numel))

/-- The word that says whether the accumulator is started afresh: 1 exactly at the second grid row. -/
abbrev startW (i : grid1.Coords) : BitVec 1 := Scalar.cmpi .eq (Scalar.subi (BitVec.ofNat 32 (i 0).val) 1#32) 0#32

/-- The rows of quantised x the body puts into the two-slab buffer `a10`: 128 rows of slab `p`. -/
abbrev put10 (x0 : Vec F S1 .f32) (x2 : Vec F S2048x128 .bf16) (a10 : Vec F S2x1280x2048 .fp8e4m3) (p n : ℕ) : Vec F S2x1280x2048 .fp8e4m3 :=
  VecWindow.put a10 ![p, 128 * n, 0] S1x128x2048.size (k1_pay2 x2 (sc x0))

/-- The new contents of block `n` of the accumulator: slab `q` times the quantised block of dy, added to the old contents unless started afresh. -/
abbrev new9 (i : grid1.Coords) (x1 : Vec F S1 .f32) (x3 : Vec F S2048x512 .bf16) (a9 : Vec F S10x1280x512 .f32) (a10 : Vec F S2x1280x2048 .fp8e4m3) (q n : ℕ)
    (inq : ∀ a, (![q, 0, 0] : Fin 3 → ℕ) a + S1x1280x2048.size a ≤ S2x1280x2048.size a) (inn : ∀ a, (![n, 0, 0] : Fin 3 → ℕ) a + S1x1280x512.size a ≤ S10x1280x512.size a) : FVec F S1x1280x512 .f32 :=
  k1_pay3 (k1_pay8 x3 (sc x1) (VecWindow.window a10 ![q, 0, 0] S1x1280x2048.size inq)) (startW i) (VecWindow.window a9 ![n, 0, 0] S1x1280x512.size inn)

/-- The accumulator with its block `n` updated. -/
abbrev put9 (i : grid1.Coords) (x1 : Vec F S1 .f32) (x3 : Vec F S2048x512 .bf16) (a9 : Vec F S10x1280x512 .f32) (a10 : Vec F S2x1280x2048 .fp8e4m3) (q n : ℕ)
    (inq : ∀ a, (![q, 0, 0] : Fin 3 → ℕ) a + S1x1280x2048.size a ≤ S2x1280x2048.size a) (inn : ∀ a, (![n, 0, 0] : Fin 3 → ℕ) a + S1x1280x512.size a ≤ S10x1280x512.size a) : Vec F S10x1280x512 .f32 :=
  VecWindow.put a9 ![n, 0, 0] S1x1280x512.size (new9 i x1 x3 a9 a10 q n inq inn)

/-- Reading the one word of a one-element buffer gives its one element. -/
theorem readAt_one (m : Memref sig .tc .smem S1 .f32) (f : m.view.ty.Contents (Elt F)) (x0 : Vec F S1 .f32) (hf : m.view.read (Elt F) f = x0) (y) :
    m.view.readAt (Elt F) (Rect.unit (s := S1) ![0] S1.size inb_S1_S1_0).toLoadRect f y = sc x0 := by
  rw [View.readAt_full, hf]
  refine congrArg x0 (funext fun a => Fin.ext ?_)
  match a with
  | ⟨0, _⟩ => exact Nat.lt_one_iff.mp (y 0).isLt

/-- `new9` from the loads it is computed of. -/
theorem new9_eq (i : grid1.Coords) {x1 : Vec F S1 .f32} {x3 : Vec F S2048x512 .bf16} {a9 : Vec F S10x1280x512 .f32} {a10 : Vec F S2x1280x2048 .fp8e4m3} {q n : ℕ}
    {inq : ∀ a, (![q, 0, 0] : Fin 3 → ℕ) a + S1x1280x2048.size a ≤ S2x1280x2048.size a} {inn : ∀ a, (![n, 0, 0] : Fin 3 → ℕ) a + S1x1280x512.size a ≤ S10x1280x512.size a}
    {v8 : Vec F S2048x512 .bf16} {v10 : Elt F .f32} {v41 : Vec F S1x1280x2048 .fp8e4m3} {v46 : Vec F S1x1280x512 .f32}
    (h8 : v8 = x3) (h10 : v10 = sc x1) (h41 : v41 = VecWindow.window a10 ![q, 0, 0] S1x1280x2048.size inq) (h46 : v46 = VecWindow.window a9 ![n, 0, 0] S1x1280x512.size inn) :
    k1_pay3 (k1_pay8 v8 v10 v41) (startW i) v46 = new9 i x1 x3 a9 a10 q n inq inn := by
  subst h8 h10 h41 h46; rfl

/-- Equal payloads put over equal contents give equal contents. -/
theorem put_congr {α : Type} {s : Shape} {x x' : s.Idx → α} {off size : Fin s.rank → ℕ} {w w' : ((a : Fin s.rank) → Fin (size a)) → α} (hx : x = x') (hw : w = w') :
    VecWindow.put x off size w = VecWindow.put x' off size w' := by rw [hx, hw]

/-- Equal contents have equal windows. -/
theorem window_congr {α : Type} {s : Shape} {x x' : s.Idx → α} {off size : Fin s.rank → ℕ} (inb : ∀ a, off a + size a ≤ s.size a) (hx : x = x') :
    VecWindow.window x off size inb = VecWindow.window x' off size inb := by rw [hx]

/-- The last payload from the loads it is computed of. -/
theorem pay4_congr {v58 v58' : Vec F S1x1280x512 .f32} {v60 v60' v61 v61' : Elt F .f32} (h : v58 = v58') (h0 : v60 = v60') (h1 : v61 = v61') :
    k1_pay4 v58 v60 v61 = k1_pay4 v58' v60' v61' := by rw [h, h0, h1]

/-- A load of the window just stored, whatever the contents below, reads the payload. -/
theorem readCov_same {sg : RefSig} {κ : Kind} {sp : Space} {s : Shape} {e : EltTy} (v : View sg κ sp s e) {off off' off'' size : Fin s.rank → ℕ} (inb : ∀ a, off a + size a ≤ s.size a)
    (inb' : ∀ a, off' a + size a ≤ s.size a) (inb'' : ∀ a, off'' a + size a ≤ s.size a) (h : off = off'') (h' : off' = off'') (w : (Rect.unit off' size inb').shape.Idx → Elt F e) :
    v.readCov [⟨Rect.unit off' size inb', w⟩] (Rect.unit off size inb).toLoadRect = w := by
  subst h; subst h'
  refine (View.readAt_unit v _ inb rfl inb'').trans ((window_congr inb'' (View.read_writes_cons_put v v.junk inb w [] rfl)).trans ?_)
  exact VecWindow.window_put_same _ _ _ inb'' _

set_option maxHeartbeats 1000000 in
/-- First grid row: the block of x is quantised and stored, nothing is multiplied. -/
theorem run_A (c : Dev nD) (i : grid1.Coords) (arg2 : Memref sig .tc .smem S1 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S128x2048 .fp8e4m3) (harg7 : arg7.IsWhole) (arg8 : Memref sig .tc .vmem S512x2048 .fp8e5m2) (harg8 : arg8.IsWhole) (arg9 : Memref sig .tc .vmem S10x1280x512 .f32) (harg9 : arg9.IsWhole) (arg10 : Memref sig .tc .vmem S2x1280x2048 .fp8e4m3) (harg10 : arg10.IsWhole)
    (hc1 : k1_cond1 i = 1#1) (hc2 : ¬ k1_cond2 i = 1#1)
    (p q n : ℕ) (hpq : p + q = 1) (h1 : k1_off1 i = ![p, 128 * n, 0]) (h2 : k1_off2 i = ![q, 0, 0]) (h3 : k1_off3 i = ![n, 0, 0]) (h4 : k1_off4 i = ![n, 0, 0])
    (inq : ∀ a, (![q, 0, 0] : Fin 3 → ℕ) a + S1x1280x2048.size a ≤ S2x1280x2048.size a) (inn : ∀ a, (![n, 0, 0] : Fin 3 → ℕ) a + S1x1280x512.size a ≤ S10x1280x512.size a)
    (x0 x1 : Vec F S1 .f32) (x2 : Vec F S2048x128 .bf16) (x3 : Vec F S2048x512 .bf16) (a9 : Vec F S10x1280x512 .f32) (a10 : Vec F S2x1280x2048 .fp8e4m3)
    (E : Set ℕ) (K : PUnit → sProp 𝕄) :
    iprop(owns (c : Thread nD τ) arg2 fullShare x0 ∗ owns (c : Thread nD τ) arg4 fullShare x2 ∗ (∃ d, owns (c : Thread nD τ) arg7 fullShare d) ∗ owns (c : Thread nD τ) arg10 fullShare a10
        ∗ (iprop(owns (c : Thread nD τ) arg2 fullShare x0 ∗ owns (c : Thread nD τ) arg4 fullShare x2 ∗ owns (c : Thread nD τ) arg7 fullShare (k1_pay1 x2 (sc x0)) ∗ owns (c : Thread nD τ) arg10 fullShare (put10 x0 x2 a10 p n)) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton]
  unfold owns
  iintro ⟨⟨%f2, %hf2, H2⟩, ⟨%f4, %hf4, H4⟩, ⟨%d7, %f7, -, H7⟩, ⟨%f10, %hf10, H10⟩, Hk⟩
  letI : ClosedOff (k1_off1 i) := ⟨![p, 128 * n, 0], h1⟩
  letI : ClosedOff (k1_off2 i) := ⟨![q, 0, 0], h2⟩
  letI : ClosedOff (k1_off3 i) := ⟨![n, 0, 0], h3⟩
  letI : ClosedOff (k1_off4 i) := ⟨![n, 0, 0], h4⟩
  sl_exec (disch := first | sl_exact hc1 | sl_exact hc2)
  sl_step
  iapply Hk
  isplitl [H2]
  · iexists _; isplitr; swap; · iexact H2
    ipureintro; exact hf2
  isplitl [H4]
  · iexists _; isplitr; swap; · iexact H4
    ipureintro; exact hf4
  isplitl [H7]
  · iexists _; isplitr; swap; · iexact H7
    ipureintro
    exact (View.read_writes_full _ _ _ _ _).trans (congrArg₂ k1_pay1 ((View.readAt_full arg4.view f4 inb_S2048x128_S2048x128_0_0).trans hf4) (readAt_one arg2 f2 x0 hf2 (Shape.Idx.first (numel1_S1.symm ▸ Nat.one_pos))))
  iexists _; isplitr; swap; · iexact H10
  ipureintro
  exact (View.read_writes_cons_put arg10.view f10 _ _ [] h1).trans (put_congr hf10 (congrArg₂ k1_pay2 ((View.readAt_full arg4.view f4 inb_S2048x128_S2048x128_0_0).trans hf4) (readAt_one arg2 f2 x0 hf2 (Shape.Idx.first (numel1_S1.symm ▸ Nat.one_pos)))))

set_option maxHeartbeats 1000000 in
/-- A middle grid row: the block of x is quantised for the next row, the block of dy is quantised and multiplied by the slab the row before filled. -/
theorem run_B (c : Dev nD) (i : grid1.Coords) (arg2 : Memref sig .tc .smem S1 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S128x2048 .fp8e4m3) (harg7 : arg7.IsWhole) (arg8 : Memref sig .tc .vmem S512x2048 .fp8e5m2) (harg8 : arg8.IsWhole) (arg9 : Memref sig .tc .vmem S10x1280x512 .f32) (harg9 : arg9.IsWhole) (arg10 : Memref sig .tc .vmem S2x1280x2048 .fp8e4m3) (harg10 : arg10.IsWhole)
    (hc1 : k1_cond1 i = 1#1) (hc2 : k1_cond2 i = 1#1) (hc3 : ¬ k1_cond3 i = 1#1)
    (p q n : ℕ) (hpq : p + q = 1) (h1 : k1_off1 i = ![p, 128 * n, 0]) (h2 : k1_off2 i = ![q, 0, 0]) (h3 : k1_off3 i = ![n, 0, 0]) (h4 : k1_off4 i = ![n, 0, 0])
    (inq : ∀ a, (![q, 0, 0] : Fin 3 → ℕ) a + S1x1280x2048.size a ≤ S2x1280x2048.size a) (inn : ∀ a, (![n, 0, 0] : Fin 3 → ℕ) a + S1x1280x512.size a ≤ S10x1280x512.size a)
    (x0 x1 : Vec F S1 .f32) (x2 : Vec F S2048x128 .bf16) (x3 : Vec F S2048x512 .bf16) (a9 : Vec F S10x1280x512 .f32) (a10 : Vec F S2x1280x2048 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare a9 ∗ owns (c : Thread nD τ) arg10 fullShare a10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (k1_pay1 x2 (sc x0)) ∗ owns (c : Thread nD τ) arg8 fullShare (k1_pay7 x3 (sc x1)) ∗ owns (c : Thread nD τ) arg9 fullShare (put9 i x1 x3 a9 a10 q n inq inn) ∗ owns (c : Thread nD τ) arg10 fullShare (put10 x0 x2 a10 p n)) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton]
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩, ⟨%f9, %hf9, H9⟩, ⟨%f10, %hf10, H10⟩, Hk⟩
  letI : ClosedOff (k1_off1 i) := ⟨![p, 128 * n, 0], h1⟩
  letI : ClosedOff (k1_off2 i) := ⟨![q, 0, 0], h2⟩
  letI : ClosedOff (k1_off3 i) := ⟨![n, 0, 0], h3⟩
  letI : ClosedOff (k1_off4 i) := ⟨![n, 0, 0], h4⟩
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H7]
  · iexists _; isplitr; swap; · iexact H7
    ipureintro
    exact (View.read_writes_full _ _ _ _ _).trans (congrArg₂ k1_pay1 ((View.readAt_full arg4.view f4 inb_S2048x128_S2048x128_0_0).trans hf4) (readAt_one arg2 f2 x0 hf2 (Shape.Idx.first (numel1_S1.symm ▸ Nat.one_pos))))
  isplitl [H8]
  · iexists _; isplitr; swap; · iexact H8
    ipureintro
    exact (View.read_writes_full _ _ _ _ _).trans (congrArg₂ k1_pay7 ((View.readAt_full arg5.view f5 inb_S2048x512_S2048x512_0_0).trans hf5) (readAt_one arg3 f3 x1 hf3 (Shape.Idx.first (numel1_S1.symm ▸ Nat.one_pos))))
  isplitl [H9]
  · iexists _; isplitr; swap; · iexact H9
    ipureintro
    rw [View.read_writes_cons_put arg9.view f9 _ _ [] h3]; refine put_congr hf9 ?_
    unfold run_B.sl.r_2 run_B.sl.H10_1
    refine new9_eq i ((View.readAt_full arg5.view f5 inb_S2048x512_S2048x512_0_0).trans hf5) (readAt_one arg3 f3 x1 hf3 (Shape.Idx.first (numel1_S1.symm ▸ Nat.one_pos))) ?_ ((View.readAt_unit arg9.view f9 (k1_off3_inb i hc2) h3 inn).trans (window_congr inn hf9))
    refine (View.readAt_unit arg10.view _ (k1_off2_inb i hc2) h2 inq).trans ((window_congr inq (View.read_writes_cons_put arg10.view f10 (k1_off1_inb i hc1) _ [] h1)).trans ?_)
    refine (VecWindow.window_put_of_disjoint _ _ _ _ _ inq _ 0 ?_).trans (window_congr inq hf10)
    show q + 1 ≤ p ∨ p + 1 ≤ q
    omega
  iexists _; isplitr; swap; · iexact H10
  ipureintro
  exact (View.read_writes_cons_put arg10.view f10 _ _ [] h1).trans (put_congr hf10 (congrArg₂ k1_pay2 ((View.readAt_full arg4.view f4 inb_S2048x128_S2048x128_0_0).trans hf4) (readAt_one arg2 f2 x0 hf2 (Shape.Idx.first (numel1_S1.symm ▸ Nat.one_pos)))))

set_option maxHeartbeats 1000000 in
/-- The last grid row: the last multiplication, then the accumulator's block is scaled and stored as a block of dW. -/
theorem run_C (c : Dev nD) (i : grid1.Coords) (arg2 : Memref sig .tc .smem S1 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S128x2048 .fp8e4m3) (harg7 : arg7.IsWhole) (arg8 : Memref sig .tc .vmem S512x2048 .fp8e5m2) (harg8 : arg8.IsWhole) (arg9 : Memref sig .tc .vmem S10x1280x512 .f32) (harg9 : arg9.IsWhole) (arg10 : Memref sig .tc .vmem S2x1280x2048 .fp8e4m3) (harg10 : arg10.IsWhole)
    (hc1 : ¬ k1_cond1 i = 1#1) (hc2 : k1_cond2 i = 1#1) (hc3 : k1_cond3 i = 1#1)
    (p q n : ℕ) (hpq : p + q = 1) (h1 : k1_off1 i = ![p, 128 * n, 0]) (h2 : k1_off2 i = ![q, 0, 0]) (h3 : k1_off3 i = ![n, 0, 0]) (h4 : k1_off4 i = ![n, 0, 0])
    (inq : ∀ a, (![q, 0, 0] : Fin 3 → ℕ) a + S1x1280x2048.size a ≤ S2x1280x2048.size a) (inn : ∀ a, (![n, 0, 0] : Fin 3 → ℕ) a + S1x1280x512.size a ≤ S10x1280x512.size a)
    (x0 x1 : Vec F S1 .f32) (x2 : Vec F S2048x128 .bf16) (x3 : Vec F S2048x512 .bf16) (a9 : Vec F S10x1280x512 .f32) (a10 : Vec F S2x1280x2048 .fp8e4m3)
    (E : Set ℕ) (K : PUnit → sProp 𝕄) :
    iprop(owns (c : Thread nD τ) arg2 fullShare x0 ∗ owns (c : Thread nD τ) arg3 fullShare x1 ∗ owns (c : Thread nD τ) arg5 fullShare x3 ∗ (∃ d, owns (c : Thread nD τ) arg6 fullShare d) ∗ (∃ d, owns (c : Thread nD τ) arg8 fullShare d) ∗ owns (c : Thread nD τ) arg9 fullShare a9 ∗ owns (c : Thread nD τ) arg10 fullShare a10
        ∗ (iprop(owns (c : Thread nD τ) arg2 fullShare x0 ∗ owns (c : Thread nD τ) arg3 fullShare x1 ∗ owns (c : Thread nD τ) arg5 fullShare x3 ∗ owns (c : Thread nD τ) arg6 fullShare (k1_pay4 (new9 i x1 x3 a9 a10 q n inq inn) (sc x0) (sc x1)) ∗ owns (c : Thread nD τ) arg8 fullShare (k1_pay7 x3 (sc x1)) ∗ owns (c : Thread nD τ) arg9 fullShare (put9 i x1 x3 a9 a10 q n inq inn) ∗ owns (c : Thread nD τ) arg10 fullShare a10) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton]
  unfold owns
  iintro ⟨⟨%f2, %hf2, H2⟩, ⟨%f3, %hf3, H3⟩, ⟨%f5, %hf5, H5⟩, ⟨%d6, %f6, -, H6⟩, ⟨%d8, %f8, -, H8⟩, ⟨%f9, %hf9, H9⟩, ⟨%f10, %hf10, H10⟩, Hk⟩
  letI : ClosedOff (k1_off1 i) := ⟨![p, 128 * n, 0], h1⟩
  letI : ClosedOff (k1_off2 i) := ⟨![q, 0, 0], h2⟩
  letI : ClosedOff (k1_off3 i) := ⟨![n, 0, 0], h3⟩
  letI : ClosedOff (k1_off4 i) := ⟨![n, 0, 0], h4⟩
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H5]
  · iexists _; isplitr; swap; · iexact H5
    ipureintro; exact hf5
  isplitl [H6]
  · iexists _; isplitr; swap; · iexact H6
    ipureintro
    rw [View.read_writes_full]; unfold run_C.sl.v58 run_C.sl.H9_1
    exact pay4_congr ((readCov_same arg9.view (k1_off4_inb i hc2 hc3) (k1_off3_inb i hc2) inn h4 h3 _).trans (new9_eq i ((View.readAt_full arg5.view f5 inb_S2048x512_S2048x512_0_0).trans hf5) (readAt_one arg3 f3 x1 hf3 (Shape.Idx.first (numel1_S1.symm ▸ Nat.one_pos))) ((View.readAt_unit arg10.view f10 (k1_off2_inb i hc2) h2 inq).trans (window_congr inq hf10)) ((View.readAt_unit arg9.view f9 (k1_off3_inb i hc2) h3 inn).trans (window_congr inn hf9)))) (readAt_one arg2 f2 x0 hf2 (Shape.Idx.first (numel1_S1.symm ▸ Nat.one_pos))) (readAt_one arg3 f3 x1 hf3 (Shape.Idx.first (numel1_S1.symm ▸ Nat.one_pos)))
  isplitl [H8]
  · iexists _; isplitr; swap; · iexact H8
    ipureintro
    exact (View.read_writes_full _ _ _ _ _).trans (congrArg₂ k1_pay7 ((View.readAt_full arg5.view f5 inb_S2048x512_S2048x512_0_0).trans hf5) (readAt_one arg3 f3 x1 hf3 (Shape.Idx.first (numel1_S1.symm ▸ Nat.one_pos))))
  isplitl [H9]
  · iexists _; isplitr; swap; · iexact H9
    ipureintro
    exact (View.read_writes_cons_put arg9.view f9 _ _ [] h3).trans (put_congr hf9 (new9_eq i ((View.readAt_full arg5.view f5 inb_S2048x512_S2048x512_0_0).trans hf5) (readAt_one arg3 f3 x1 hf3 (Shape.Idx.first (numel1_S1.symm ▸ Nat.one_pos))) ((View.readAt_unit arg10.view f10 (k1_off2_inb i hc2) h2 inq).trans (window_congr inq hf10)) ((View.readAt_unit arg9.view f9 (k1_off3_inb i hc2) h3 inn).trans (window_congr inn hf9))))
  iexists _; isplitr; swap; · iexact H10
  ipureintro; exact hf10

end Cert.Kernel.Product

end
-- ==== Proof.ProductTrackBits.lean ====
/- The whole run of the product kernel, point by point: what each staging buffer and each scratch buffer holds, and the frame. -/
module

public import proofs.«01_k».proof.Proof.ProductRunsBits

@[expose] public section

set_option maxRecDepth 16384

noncomputable section

namespace Cert.Kernel.Product

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule, decided over the 130 points -/

/-- x is quantised at the first 120 points (the first twelve grid rows). -/
theorem cond1_iff : ∀ t : Fin grid1.N, k1_cond1 (grid1.coords t) = 1#1 ↔ t.val < 120 := by decide +kernel
/-- The multiplication runs from the second grid row on. -/
theorem cond2_iff : ∀ t : Fin grid1.N, k1_cond2 (grid1.coords t) = 1#1 ↔ 10 ≤ t.val := by decide +kernel
/-- dW is stored in the last grid row. -/
theorem cond3_iff : ∀ t : Fin grid1.N, k1_cond3 (grid1.coords t) = 1#1 ↔ 120 ≤ t.val := by decide +kernel
/-- The accumulator is started afresh in the second grid row; -/
theorem startW_one : ∀ t : Fin grid1.N, t.val / 10 = 1 → startW (grid1.coords t) = 1#1 := by decide +kernel
/-- and continued in the later ones. -/
theorem startW_zero : ∀ t : Fin grid1.N, 20 ≤ t.val → startW (grid1.coords t) = 0#1 := by decide +kernel
/-- Where the quantised block of x goes in the two slabs. -/
theorem off1_eq : ∀ t : Fin grid1.N, k1_off1 (grid1.coords t) = ![t.val / 10 % 2, 128 * (t.val % 10), 0] := by decide +kernel
/-- The slab that is multiplied. -/
theorem off2_eq : ∀ t : Fin grid1.N, k1_off2 (grid1.coords t) = ![(t.val / 10 + 1) % 2, 0, 0] := by decide +kernel
/-- The accumulator's block. -/
theorem off3_eq : ∀ t : Fin grid1.N, k1_off3 (grid1.coords t) = ![t.val % 10, 0, 0] := by decide +kernel
theorem off4_eq : ∀ t : Fin grid1.N, k1_off4 (grid1.coords t) = ![t.val % 10, 0, 0] := by decide +kernel

/-- The results' write-backs. -/
theorem flush4 : ∀ t : Fin grid1.N, win1_4.flush t = true ↔ 120 ≤ t.val := by decide +kernel
theorem flush5 : ∀ t : Fin grid1.N, win1_5.flush t = true ↔ (t.val < 119 ∨ t.val = 129) := by decide +kernel
theorem flush6 : ∀ t : Fin grid1.N, win1_6.flush t = true ↔ 10 ≤ t.val := by decide +kernel

/-- The points at which the body leaves a result's buffer alone. -/
theorem idle4 : ∀ t : Fin grid1.N, idle1 4 (grid1.coords t) = decide (t.val < 120) := by decide +kernel
theorem idle5 : ∀ t : Fin grid1.N, idle1 5 (grid1.coords t) = decide (120 ≤ t.val) := by decide +kernel
theorem idle6 : ∀ t : Fin grid1.N, idle1 6 (grid1.coords t) = decide (t.val < 10) := by decide +kernel

theorem lt_N (t : Fin cfg1.N) : t.val < 130 := lt_of_lt_of_eq t.isLt N_1

/-- The point numbered `n` (below 130). -/
abbrev pt (n : ℕ) : Fin cfg1.N := ⟨n % 130, lt_of_lt_of_eq (Nat.mod_lt _ (by decide)) N_1.symm⟩
theorem pt_self (t : Fin cfg1.N) : pt t.val = t := Fin.ext (Nat.mod_eq_of_lt (lt_N t))

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The values -/

/-- The staged inputs at a point: the two scales, the block of x, the block of dy. -/
abbrev xs (c : Dev nD) (t : Fin cfg1.N) : Elt F .f32 := sc (F := F) (iblk V c 0 t)
abbrev ds (c : Dev nD) (t : Fin cfg1.N) : Elt F .f32 := sc (F := F) (iblk V c 1 t)
abbrev xb (c : Dev nD) (t : Fin cfg1.N) : Vec F S2048x128 .bf16 := iblk V c 2 t
abbrev db (c : Dev nD) (t : Fin cfg1.N) : Vec F S2048x512 .bf16 := iblk V c 3 t

/-- The slab grid row `s` fills: row `r` of it comes from the point that quantises columns `128 (r / 128)` on of x. -/
def slab (c : Dev nD) (s : ℕ) : Vec F S1x1280x2048 .fp8e4m3 := fun y =>
  k1_pay2 (xb V c (pt (10 * s + (y 1).val / 128))) (xs V c (pt (10 * s + (y 1).val / 128)))
    (fun | 0 => ⟨0, Nat.one_pos⟩ | 1 => ⟨(y 1).val % 128, Nat.mod_lt _ (by decide)⟩ | 2 => y 2)

/-- The product of the point of grid row `k + 1` and column `n`: the slab row `k` filled, times the block of dy. -/
def prod (c : Dev nD) (n k : ℕ) : Vec F S1x1280x512 .f32 :=
  k1_pay3 (k1_pay8 (db V c (pt (10 * (k + 1) + n))) (ds V c (pt (10 * (k + 1) + n))) (slab V c k)) 1#1
    (fun y => k1_pay8 (db V c (pt (10 * (k + 1) + n))) (ds V c (pt (10 * (k + 1) + n))) (slab V c k) (fun | 0 => y 1 | 1 => y 2))

/-- The accumulator's block `n` after grid row `k + 1`. -/
def acc (c : Dev nD) (n : ℕ) : ℕ → Vec F S1x1280x512 .f32
  | 0 => prod V c n 0
  | k + 1 => k1_pay3 (k1_pay8 (db V c (pt (10 * (k + 2) + n))) (ds V c (pt (10 * (k + 2) + n))) (slab V c (k + 1))) 0#1 (acc c n k)

/-- Starting afresh reads nothing of what the accumulator held. -/
theorem pay3_start (v43 : FVec F S1280x512 .f32) (v46 v46' : FVec F S1x1280x512 .f32) : k1_pay3 v43 1#1 v46 = k1_pay3 v43 1#1 v46' := rfl

/-- What the body leaves in the three results' buffers. -/
def xq (c : Dev nD) (t : Fin cfg1.N) : Vec F S128x2048 .fp8e4m3 := k1_pay1 (xb V c t) (xs V c t)
def dq (c : Dev nD) (t : Fin cfg1.N) : Vec F S512x2048 .fp8e5m2 := k1_pay7 (db V c t) (ds V c t)
def dw (c : Dev nD) (t : Fin cfg1.N) : Vec F S1280x512 .f32 := k1_pay4 (acc V c (t.val % 10) 11) (xs V c t) (ds V c t)

/-! ## The scratch between points -/

/-- Before point `t` the two slabs hold every block quantised in this grid row and the one before. -/
def Inv10 (c : Dev nD) (t : ℕ) (a10 : Vec F S2x1280x2048 .fp8e4m3) : Prop :=
  ∀ u, u < t → u < 120 → t < 10 * (u / 10) + 20 → ∀ inb,
    VecWindow.window a10 ![u / 10 % 2, 128 * (u % 10), 0] S1x128x2048.size inb = k1_pay2 (xb V c (pt u)) (xs V c (pt u))

/-- Before point `t` the accumulator holds each of its blocks as last written. -/
def Inv9 (c : Dev nD) (t : ℕ) (a9 : Vec F S10x1280x512 .f32) : Prop :=
  ∀ u, 10 ≤ u → u < t → t ≤ u + 10 → ∀ inb,
    VecWindow.window a9 ![u % 10, 0, 0] S1x1280x512.size inb = acc V c (u % 10) (u / 10 - 1)

/-- Storing the block of point `t` keeps the slabs' invariant. -/
theorem Inv10_put (c : Dev nD) (t : Fin cfg1.N) (ht : t.val < 120) (a10 : Vec F S2x1280x2048 .fp8e4m3) (h : Inv10 V c t.val a10) :
    Inv10 V c (t.val + 1) (put10 (iblk V c 0 t) (iblk V c 2 t) a10 (t.val / 10 % 2) (t.val % 10)) := by
  intro u hu hu' hw inb
  by_cases hut : u = t.val
  · subst hut
    rw [pt_self]
    exact VecWindow.window_put_same _ _ _ inb _
  · have h0 := h u (by omega) hu' (by omega) inb
    rw [← h0]
    by_cases hrow : u / 10 = t.val / 10
    · refine VecWindow.window_put_of_disjoint _ _ _ _ _ inb _ 1 ?_
      show 128 * (u % 10) + 128 ≤ 128 * (t.val % 10) ∨ 128 * (t.val % 10) + 128 ≤ 128 * (u % 10)
      omega
    · refine VecWindow.window_put_of_disjoint _ _ _ _ _ inb _ 0 ?_
      show u / 10 % 2 + 1 ≤ t.val / 10 % 2 ∨ t.val / 10 % 2 + 1 ≤ u / 10 % 2
      omega

/-- In the last grid row nothing is stored in the slabs. -/
theorem Inv10_keep (c : Dev nD) (t : ℕ) (ht : 120 ≤ t) (a10 : Vec F S2x1280x2048 .fp8e4m3) (h : Inv10 V c t a10) : Inv10 V c (t + 1) a10 :=
  fun u hu hu' hw inb => h u (by omega) hu' (by omega) inb

/-- From the second grid row on the slab the row before filled is there whole. -/
theorem slab_of_inv (c : Dev nD) (t : ℕ) (ht : 10 ≤ t) (ht' : t < 130) (a10 : Vec F S2x1280x2048 .fp8e4m3) (h : Inv10 V c t a10)
    (inq : ∀ a, (![(t / 10 + 1) % 2, 0, 0] : Fin 3 → ℕ) a + S1x1280x2048.size a ≤ S2x1280x2048.size a) :
    VecWindow.window a10 ![(t / 10 + 1) % 2, 0, 0] S1x1280x2048.size inq = slab V c (t / 10 - 1) := by
  funext y
  have hy : (y 1).val < 1280 := (y 1).isLt
  have hy0 : (y 0).val < 1 := (y 0).isLt
  have h0 := h (10 * (t / 10 - 1) + (y 1).val / 128) (by omega) (by omega) (by omega) (by
    intro a; fin_cases a
    · show (10 * (t / 10 - 1) + (y 1).val / 128) / 10 % 2 + 1 ≤ 2; omega
    · show 128 * ((10 * (t / 10 - 1) + (y 1).val / 128) % 10) + 128 ≤ 1280; omega
    · show 0 + 2048 ≤ 2048; omega)
  unfold slab
  rw [← h0]
  unfold VecWindow.window
  refine congrArg a10 (funext fun a => Fin.ext ?_)
  fin_cases a
  · show (t / 10 + 1) % 2 + 1 * (y 0).val = (10 * (t / 10 - 1) + (y 1).val / 128) / 10 % 2 + 1 * 0; omega
  · show 0 + 1 * (y 1).val = 128 * ((10 * (t / 10 - 1) + (y 1).val / 128) % 10) + 1 * ((y 1).val % 128); omega
  · rfl

/-- What a point of the second grid row or later leaves in its block of the accumulator. -/
theorem new9_of_inv (c : Dev nD) (t : Fin cfg1.N) (ht : 10 ≤ t.val) (a9 : Vec F S10x1280x512 .f32) (a10 : Vec F S2x1280x2048 .fp8e4m3)
    (h9 : Inv9 V c t.val a9) (h10 : Inv10 V c t.val a10) (inq) (inn) :
    new9 (grid1.coords t) (iblk V c 1 t) (iblk V c 3 t) a9 a10 ((t.val / 10 + 1) % 2) (t.val % 10) inq inn = acc V c (t.val % 10) (t.val / 10 - 1) := by
  have hN := lt_N t
  unfold new9
  rw [slab_of_inv V c t.val ht hN a10 h10 inq]
  by_cases h1 : t.val / 10 = 1
  · rw [startW_one t h1, show t.val / 10 - 1 = 0 by omega]
    unfold acc prod
    rw [show 10 * (0 + 1) + t.val % 10 = t.val by omega, pt_self]
    exact pay3_start _ _ _
  · obtain ⟨k, hk⟩ : ∃ k, t.val / 10 = k + 2 := ⟨t.val / 10 - 2, by omega⟩
    have hp : ∀ n', (t.val - 10) % 10 = n' → ∀ inn', VecWindow.window a9 ![n', 0, 0] S1x1280x512.size inn' = acc V c n' k := by
      intro n' hn' inn'
      subst hn'
      have := h9 (t.val - 10) (by omega) (by omega) (by omega) inn'
      rwa [show (t.val - 10) / 10 - 1 = k by omega] at this
    have hp' := hp (t.val % 10) (by omega) inn
    rw [startW_zero t (by omega), show t.val / 10 - 1 = k + 1 by omega, hp']
    show _ = k1_pay3 _ _ _
    rw [show 10 * (k + 2) + t.val % 10 = t.val by omega, pt_self]

/-- Storing the block keeps the accumulator's invariant. -/
theorem Inv9_put (c : Dev nD) (t : Fin cfg1.N) (ht : 10 ≤ t.val) (a9 : Vec F S10x1280x512 .f32) (a10 : Vec F S2x1280x2048 .fp8e4m3)
    (h9 : Inv9 V c t.val a9) (h10 : Inv10 V c t.val a10) (inq) (inn) :
    Inv9 V c (t.val + 1) (put9 (grid1.coords t) (iblk V c 1 t) (iblk V c 3 t) a9 a10 ((t.val / 10 + 1) % 2) (t.val % 10) inq inn) := by
  intro u hu hu' hw inb
  unfold put9
  rw [new9_of_inv V c t ht a9 a10 h9 h10 inq inn]
  by_cases hut : u = t.val
  · subst hut
    exact VecWindow.window_put_same _ _ _ inb _
  · have h0 := h9 u hu (by omega) (by omega) inb
    rw [← h0]
    refine VecWindow.window_put_of_disjoint _ _ _ _ _ inb _ 0 ?_
    show u % 10 + 1 ≤ t.val % 10 ∨ t.val % 10 + 1 ≤ u % 10
    omega

end Cert.Kernel.Product

end
-- ==== Proof.ProductFrameBits.lean ====
/- The proof data of the product kernel's pipeline, its body obligation, . -/
module

public import proofs.«01_k».proof.Proof.ProductTrackBits
public import Idealize.ShloMosaic.Lib.Claim

@[expose] public section

set_option maxRecDepth 16384

noncomputable section

namespace Cert.Kernel.Product

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operands: the accumulator and the two slabs. -/
abbrev scM1_0 : Memref sig .tc .vmem S10x1280x512 .f32 := Memref.whole cc1_scratch0
abbrev scM1_1 : Memref sig .tc .vmem S2x1280x2048 .fp8e4m3 := Memref.whole cc1_scratch1

/-- A scoped buffer of the other call, whole at some contents. -/
abbrev anyAt (c : Dev nD) (b : Ref sig .tc) : sProp 𝕄 := iprop(∃ f : Buf (Elt F) ((c : Thread nD τ).loc b), ((c : Thread nD τ).loc b) ↦{fullShare} f)

/-- The scoped buffers that ride along: those of the other call. -/
abbrev Rest (c : Dev nD) : sProp 𝕄 := iprop(anyAt c cc0_stg0_0 ∗ anyAt c cc0_stg0_1 ∗ anyAt c cc0_stg1_0 ∗ anyAt c cc0_stg1_1 ∗ anyAt c cc0_scratch0 ∗ anyAt c cc0_scratch1 ∗ anyAt c cc0_stg2_0 ∗ anyAt c cc0_stg3_0)

/-- What the launch hands the region, with the scratch as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Rest c) ∗ (∃ r, prngReg c r)) := by
  unfold Pipeline.ΦA
  rw [Pipeline.scopedRest_eq_of_list spec1 c [cc1_scratch0, cc1_scratch1, cc0_stg0_0, cc0_stg0_1, cc0_stg1_0, cc0_stg1_1, cc0_scratch0, cc0_scratch1, cc0_stg2_0, cc0_stg3_0] (by decide) (by decide)]
  simp only [scM1_0, scM1_1, owns_whole]; try rfl

/-- The region's invariant before point `n`: the scratch as `Inv9` and `Inv10` say, the generator register at some state. -/
def PhiS (c : Dev nD) (n : ℕ) (_ : n ≤ cfg1.N) : sProp 𝕄 :=
  iprop(∃ a9, ∃ a10, ⌜Inv9 V c n a9 ∧ Inv10 V c n a10⌝ ∗ owns (c : Thread nD τ) scM1_0 fullShare a9 ∗ owns (c : Thread nD τ) scM1_1 fullShare a10 ∗ Rest c ∗ (∃ r, prngReg c r))

/-- The proof data: the arrays as the region finds them; after the body each input's buffer at its block, each result's at
    what was last stored there. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => dw V c t
    | ⟨5, _⟩ => xq V c (pt (min t.val 119))
    | ⟨6, _⟩ => dq V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = dw V c t := by dsimp only [dat]
theorem after1_5 (c : Dev nD) (t : Fin cfg1.N) : (dat V c).after 5 t = xq V c (pt (min t.val 119)) := by dsimp only [dat]
theorem after1_6 (c : Dev nD) (t : Fin cfg1.N) : (dat V c).after 6 t = dq V c t := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d

/-- Through the last grid row the buffer of x's codes holds what point 119 left in it. -/
theorem before1_5 (c : Dev nD) : ∀ (n : ℕ) (t : Fin cfg1.N), t.val = 120 + n → ∀ d, (dat V c).before 5 t d = xq V c (pt 119)
  | 0, t, h, d => by
    have hf : (cfg1.win 5).flush ⟨t.val - 1, Nat.lt_of_le_of_lt (Nat.sub_le _ _) t.isLt⟩ = false :=
      Bool.eq_false_iff.mpr fun h' => by
        have := (flush5 _).mp h'; simp only at this; omega
    have hi : cfg1.idle 5 (cfg1.grid.coords ⟨t.val - 1, Nat.lt_of_le_of_lt (Nat.sub_le _ _) t.isLt⟩) = false :=
      (idle5 _).trans (decide_eq_false (by simp only; omega))
    rw [(dat V c).before_of_pos 5 t (by omega) ((cfg1.win 5).fetch_out rfl t), hf, if_neg Bool.false_ne_true]
    unfold Dat.left; rw [hi]; dsimp only; unfold Dat.kept
    rw [Pipeline.fill_of_clip_none 5 _ (fun _ => rfl) d ((dat V c).after 5 _), Window.fill_cut, after1_5]
    congr 2; simp only; omega
  | n + 1, t, h, d => by
    have hN := lt_N t
    have hf : (cfg1.win 5).flush ⟨t.val - 1, Nat.lt_of_le_of_lt (Nat.sub_le _ _) t.isLt⟩ = false :=
      Bool.eq_false_iff.mpr fun h' => by
        have := (flush5 _).mp h'; simp only at this; omega
    have hi : cfg1.idle 5 (cfg1.grid.coords ⟨t.val - 1, Nat.lt_of_le_of_lt (Nat.sub_le _ _) t.isLt⟩) = true :=
      (idle5 _).trans (decide_eq_true (by simp only; omega))
    rw [(dat V c).before_of_pos 5 t (by omega) ((cfg1.win 5).fetch_out rfl t), hf, if_neg Bool.false_ne_true]
    unfold Dat.left; rw [hi]; dsimp only
    exact before1_5 c n ⟨t.val - 1, _⟩ (by simp only; omega) d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input's buffer is left at its block. -/
theorem leaves0 (c : Dev nD) (t : Fin cfg1.N) : (dat V c).leavesExact 0 t = owns (c : Thread nD τ) (st1_0 t) fullShare (iblk V c 0 t) := by
  unfold Dat.leavesExact; rw [show cfg1.idle 0 (cfg1.grid.coords t) = false from rfl]; dsimp only; rw [after1_0]
theorem leaves1 (c : Dev nD) (t : Fin cfg1.N) : (dat V c).leavesExact 1 t = owns (c : Thread nD τ) (st1_1 t) fullShare (iblk V c 1 t) := by
  unfold Dat.leavesExact; rw [show cfg1.idle 1 (cfg1.grid.coords t) = false from rfl]; dsimp only; rw [after1_1]
theorem leaves2 (c : Dev nD) (t : Fin cfg1.N) : (dat V c).leavesExact 2 t = owns (c : Thread nD τ) (st1_2 t) fullShare (iblk V c 2 t) := by
  unfold Dat.leavesExact; rw [show cfg1.idle 2 (cfg1.grid.coords t) = false from rfl]; dsimp only; rw [after1_2]
theorem leaves3 (c : Dev nD) (t : Fin cfg1.N) : (dat V c).leavesExact 3 t = owns (c : Thread nD τ) (st1_3 t) fullShare (iblk V c 3 t) := by
  unfold Dat.leavesExact; rw [show cfg1.idle 3 (cfg1.grid.coords t) = false from rfl]; dsimp only; rw [after1_3]

/-- A result's buffer where the body stores it. -/
theorem leaves4_live (c : Dev nD) (t : Fin cfg1.N) (h : 120 ≤ t.val) : (dat V c).leavesExact 4 t = owns (c : Thread nD τ) (st1_4 t) fullShare (dw V c t) := by
  unfold Dat.leavesExact
  rw [show cfg1.idle 4 (cfg1.grid.coords t) = false from (idle4 t).trans (decide_eq_false (by omega))]; dsimp only; rw [after1_4]
theorem leaves5_live (c : Dev nD) (t : Fin cfg1.N) (h : t.val < 120) : (dat V c).leavesExact 5 t = owns (c : Thread nD τ) (st1_5 t) fullShare (xq V c t) := by
  unfold Dat.leavesExact
  rw [show cfg1.idle 5 (cfg1.grid.coords t) = false from (idle5 t).trans (decide_eq_false (by omega))]; dsimp only; rw [after1_5, show min t.val 119 = t.val by omega, pt_self]
theorem leaves6_live (c : Dev nD) (t : Fin cfg1.N) (h : 10 ≤ t.val) : (dat V c).leavesExact 6 t = owns (c : Thread nD τ) (st1_6 t) fullShare (dq V c t) := by
  unfold Dat.leavesExact
  rw [show cfg1.idle 6 (cfg1.grid.coords t) = false from (idle6 t).trans (decide_eq_false (by omega))]; dsimp only; rw [after1_6]

/-- A result's buffer where the body leaves it alone. -/
theorem leaves4_idle (c : Dev nD) (t : Fin cfg1.N) (h : t.val < 120) :
    (dat V c).leavesExact 4 t = iprop(∃ d, owns (c : Thread nD τ) (st1_4 t) fullShare ((dat V c).before 4 t d)) :=
  (dat V c).leavesExact_idle 4 t ((idle4 t).trans (decide_eq_true h)) (Bool.eq_false_iff.mpr fun h' => absurd ((flush4 t).mp h') (by omega))
theorem leaves6_idle (c : Dev nD) (t : Fin cfg1.N) (h : t.val < 10) :
    (dat V c).leavesExact 6 t = iprop(∃ d, owns (c : Thread nD τ) (st1_6 t) fullShare ((dat V c).before 6 t d)) :=
  (dat V c).leavesExact_idle 6 t ((idle6 t).trans (decide_eq_true h)) (Bool.eq_false_iff.mpr fun h' => absurd ((flush6 t).mp h') (by omega))

/-- In the last grid row the buffer of x's codes is left as found, which at its write-back is what point 119 stored. -/
theorem leaves5_last (c : Dev nD) (t : Fin cfg1.N) (h : 120 ≤ t.val) :
    iprop(∃ d, owns (c : Thread nD τ) (st1_5 t) fullShare ((dat V c).before 5 t d)) ⊢ (dat V c).leavesExact 5 t := by
  have hN := lt_N t
  have hi : cfg1.idle 5 (cfg1.grid.coords t) = true := (idle5 t).trans (decide_eq_true h)
  by_cases hl : t.val = 129
  · have hf : (cfg1.win 5).flush t = true := (flush5 t).mpr (.inr hl)
    unfold Dat.leavesExact
    rw [hi, hf]; dsimp only
    rw [after1_5, show min t.val 119 = 119 by omega]
    iintro ⟨%d, H⟩
    rw [before1_5 V c (t.val - 120) t (by omega) d]
    iexact H
  · have hf : (cfg1.win 5).flush t = false := Bool.eq_false_iff.mpr fun h' => by
      have := (flush5 t).mp h'; omega
    rw [(dat V c).leavesExact_idle 5 t hi hf]

theorem inq_of (t : Fin cfg1.N) : ∀ a, (![(t.val / 10 + 1) % 2, 0, 0] : Fin 3 → ℕ) a + S1x1280x2048.size a ≤ S2x1280x2048.size a := by
  intro a; fin_cases a
  · show (t.val / 10 + 1) % 2 + 1 ≤ 2; omega
  · show 0 + 1280 ≤ 1280; omega
  · show 0 + 2048 ≤ 2048; omega
theorem inn_of (t : Fin cfg1.N) : ∀ a, (![t.val % 10, 0, 0] : Fin 3 → ℕ) a + S1x1280x512.size a ≤ S10x1280x512.size a := by
  intro a; fin_cases a
  · show t.val % 10 + 1 ≤ 10; omega
  · show 0 + 1280 ≤ 1280; omega
  · show 0 + 512 ≤ 512; omega

set_option maxHeartbeats 4800000 in
/-- The body at any point: by its grid row one of the three cases, the scratch at the invariant before and after. -/
theorem sound_body (c : Dev nD) (t : Fin cfg1.N) :
    bodyPre V c t ⊢ wp frame (wpE (defs₀ (F := F)) Variants.none c none) Set.univ (bodyAt1 t) (fun _ => bodyPost V c t) := by
  have hN := lt_N t
  unfold bodyPre bodyPost bodyAt1
  simp only [before1_0, before1_1, before1_2, before1_3]
  rw [show (dat V c).owesAt () t.succ = (dat V c).owesAt () t.castSucc from rfl]
  rw [show (dat V c).Φ t.succ = PhiS V c (t.val + 1) t.isLt from rfl, PhiS_castSucc V c t]
  rw [leaves0, leaves1, leaves2, leaves3]
  unfold PhiS
  by_cases h1 : t.val < 120
  · by_cases h2 : 10 ≤ t.val
    · rw [leaves4_idle V c t h1, leaves5_live V c t h1, leaves6_live V c t h2]
      iintro ⟨⟨%a9, %a10, %hI, HS0, HS1, Hg⟩, Ho, ⟨%d0, H0⟩, ⟨%d1, H1⟩, ⟨%d2, H2⟩, ⟨%d3, H3⟩, H4, ⟨%d5, H5⟩, ⟨%d6, H6⟩⟩
      iapply (run_B c (grid1.coords t) _ _ _ _ _ _ _ _ _ _ _ _ _ _ _ _ _ _ ((cond1_iff t).mpr h1) ((cond2_iff t).mpr h2) (fun h => absurd ((cond3_iff t).mp h) (by omega))
        (t.val / 10 % 2) ((t.val / 10 + 1) % 2) (t.val % 10) (by omega) (off1_eq t) (off2_eq t) (off3_eq t) (off4_eq t) (inq_of t) (inn_of t)
        (iblk V c 0 t) (iblk V c 1 t) (iblk V c 2 t) (iblk V c 3 t) a9 a10 Set.univ _)
      isplitl [H0]; · iexact H0
      isplitl [H1]; · iexact H1
      isplitl [H2]; · iexact H2
      isplitl [H3]; · iexact H3
      isplitl [H5]; · iexists _; iexact H5
      isplitl [H6]; · iexists _; iexact H6
      isplitl [HS0]; · iexact HS0
      isplitl [HS1]; · iexact HS1
      iintro ⟨H0, H1, H2, H3, H5, H6, HS0, HS1⟩
      isplitl [HS0 HS1 Hg]
      · iexists _; iexists _
        isplitr; swap
        · isplitl [HS0]; · iexact HS0
          isplitl [HS1]; · iexact HS1
          iexact Hg
        ipureintro
        exact ⟨Inv9_put V c t h2 a9 a10 hI.1 hI.2 _ _, Inv10_put V c t h1 a10 hI.2⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves4_idle V c t h1, leaves5_live V c t h1, leaves6_idle V c t (by omega)]
      iintro ⟨⟨%a9, %a10, %hI, HS0, HS1, Hg⟩, Ho, ⟨%d0, H0⟩, ⟨%d1, H1⟩, ⟨%d2, H2⟩, ⟨%d3, H3⟩, H4, ⟨%d5, H5⟩, H6⟩
      iapply (run_A c (grid1.coords t) _ _ _ _ _ _ _ _ _ _ _ _ _ _ _ _ _ _ ((cond1_iff t).mpr h1) (fun h => absurd ((cond2_iff t).mp h) h2)
        (t.val / 10 % 2) ((t.val / 10 + 1) % 2) (t.val % 10) (by omega) (off1_eq t) (off2_eq t) (off3_eq t) (off4_eq t) (inq_of t) (inn_of t)
        (iblk V c 0 t) (iblk V c 1 t) (iblk V c 2 t) (iblk V c 3 t) a9 a10 Set.univ _)
      isplitl [H0]; · iexact H0
      isplitl [H2]; · iexact H2
      isplitl [H5]; · iexists _; iexact H5
      isplitl [HS1]; · iexact HS1
      iintro ⟨H0, H2, H5, HS1⟩
      isplitl [HS0 HS1 Hg]
      · iexists _; iexists _
        isplitr; swap
        · isplitl [HS0]; · iexact HS0
          isplitl [HS1]; · iexact HS1
          iexact Hg
        ipureintro
        exact ⟨fun u hu hu' => absurd hu' (by omega), Inv10_put V c t h1 a10 hI.2⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · rw [leaves4_live V c t (by omega), leaves6_live V c t (by omega)]
    iintro ⟨⟨%a9, %a10, %hI, HS0, HS1, Hg⟩, Ho, ⟨%d0, H0⟩, ⟨%d1, H1⟩, ⟨%d2, H2⟩, ⟨%d3, H3⟩, ⟨%d4, H4⟩, H5, ⟨%d6, H6⟩⟩
    iapply (run_C c (grid1.coords t) _ _ _ _ _ _ _ _ _ _ _ _ _ _ _ _ _ _ (fun h => absurd ((cond1_iff t).mp h) h1) ((cond2_iff t).mpr (by omega)) ((cond3_iff t).mpr (by omega))
      (t.val / 10 % 2) ((t.val / 10 + 1) % 2) (t.val % 10) (by omega) (off1_eq t) (off2_eq t) (off3_eq t) (off4_eq t) (inq_of t) (inn_of t)
      (iblk V c 0 t) (iblk V c 1 t) (iblk V c 2 t) (iblk V c 3 t) a9 a10 Set.univ _)
    isplitl [H0]; · iexact H0
    isplitl [H1]; · iexact H1
    isplitl [H3]; · iexact H3
    isplitl [H4]; · iexists _; iexact H4
    isplitl [H6]; · iexists _; iexact H6
    isplitl [HS0]; · iexact HS0
    isplitl [HS1]; · iexact HS1
    iintro ⟨H0, H1, H3, H4, H6, HS0, HS1⟩
    isplitl [HS0 HS1 Hg]
    · iexists _; iexists _
      isplitr; swap
      · isplitl [HS0]; · iexact HS0
        isplitl [HS1]; · iexact HS1
        iexact Hg
      ipureintro
      exact ⟨Inv9_put V c t (by omega) a9 a10 hI.1 hI.2 _ _, Inv10_keep V c t.val (by omega) a10 hI.2⟩
    isplitl [Ho]; · iexact Ho
    isplitl [H0]; · iexact H0
    isplitl [H1]; · iexact H1
    isplitl [H2]; · iexact H2
    isplitl [H3]; · iexact H3
    isplitl [H4]
    · rw [new9_of_inv V c t (by omega) a9 a10 hI.1 hI.2, show t.val / 10 - 1 = 11 by omega]
      iexact H4
    isplitl [H5]; · iapply (leaves5_last V c t (by omega)); iexact H5
    iexact H6

/-- The body table's row at point `t`'s slots is the body. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region is the invariant before the first point; -/
theorem hin (c : Dev nD) : Pipeline.ΦA spec1 c ⊢ (dat V c).Φ 0 := by
  rw [show (dat V c).Φ 0 = PhiS V c 0 (Nat.zero_le _) from rfl, PhiA1_eq]
  unfold PhiS
  iintro ⟨⟨⟨%a9, HS0⟩, ⟨%a10, HS1⟩, Hr⟩, Hg⟩
  iexists a9; iexists a10
  isplitr; swap
  · isplitl [HS0]; · iexact HS0
    isplitl [HS1]; · iexact HS1
    isplitl [Hr]; · iexact Hr
    iexact Hg
  ipureintro
  exact ⟨fun u _ h => absurd h (Nat.not_lt_zero _), fun u h => absurd h (Nat.not_lt_zero _)⟩

/-- after the last point the invariant gives it back. -/
theorem hout (c : Dev nD) : (dat V c).Φ (Fin.last cfg1.N) ⊢ Pipeline.ΦA spec1 c := by
  rw [show (dat V c).Φ (Fin.last cfg1.N) = PhiS V c cfg1.N le_rfl from rfl, PhiA1_eq]
  unfold PhiS
  iintro ⟨%a9, %a10, -, HS0, HS1, Hr, Hg⟩
  isplitl [HS0 HS1 Hr]
  · isplitl [HS0]
    · iexists _; iexact HS0
    isplitl [HS1]
    · iexists _; iexact HS1
    iexact Hr
  iexact Hg

end Cert.Kernel.Product

end
-- ==== Proof.WholeBits.lean ====
/- The whole program from launch to return: its reshapes, the maximum kernel and the product kernel one after the other. -/
module

public import proofs.«01_k».proof.Proof.AmaxFrameBits
public import proofs.«01_k».proof.Proof.ProductFrameBits
public import proofs.«01_k».proof.Proof.Gen.Kernel.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (Amax.dat (V1 m ρ) c).arrAt w cfg0.N
theorem W2_arr (c : Dev nD) (w : Fin cfg0.W) :
    W2 m ρ c (Proc.devRef .tc (Pipeline.arrRef spec0 w)) = (Amax.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `Amax.A_eq`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Amax.dat (V1 m ρ) c).arrAt_in w (h w rfl) _).trans (Amax.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (Amax.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (Product.dat (V2 m ρ) c).arrAt w cfg1.N
theorem W3_arr (c : Dev nD) (w : Fin cfg1.W) :
    W3 m ρ c (Proc.devRef .tc (Pipeline.arrRef spec1 w)) = (Product.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `Product.A_eq`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Product.dat (V2 m ρ) c).arrAt_in w (h w rfl) _).trans (Product.A_eq (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (Product.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Amax.dat (V1 m ρ) c
  | ⟨1, _⟩ => fun c => Product.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Amax.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Amax.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Amax.hin (V1 m ρ) c)
    unfold Pipeline.ΦA
    iintro ⟨Hp, -, Hr⟩
    isplitl [Hr]; · iexact Hr
    iexact Hp
  hout c := by
    rw [Pipeline.ownSems0_none]
    refine (Amax.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Product.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Product.A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Product.hin (V2 m ρ) c)
    unfold Pipeline.ΦA
    iintro ⟨Hp, -, Hr⟩
    isplitl [Hr]; · iexact Hr
    iexact Hp
  hout c := by
    rw [Pipeline.ownSems0_none]
    refine (Product.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution ends, nothing faulting, with every buffer that
    outlives the calls at the contents of the last boundary and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W3_main_arg0 m ρ c),
     (h.1 c _ (mem_uc main_arg1 (by decide))).trans (W3_main_arg1 m ρ c)⟩, h.2⟩) (run m ρ)

/-- The results: the three arrays the product kernel leaves, the two scales as the maximum kernel leaves them. -/
theorem results : θ_run defs (onTc (τ := τ) (main (F := F))) ⟨m, fun _ => 0, ρ⟩ (fun r => ∀ c : Dev nD,
      r.2.mem ((c.tc : Thread nD τ).loc main_v3_0) = (Product.dat (V2 m ρ) c).arrAt 4 cfg1.N
      ∧ r.2.mem ((c.tc : Thread nD τ).loc main_v3_1) = (Product.dat (V2 m ρ) c).arrAt 5 cfg1.N
      ∧ r.2.mem ((c.tc : Thread nD τ).loc main_v2_0) = (Amax.dat (V1 m ρ) c).arrAt 2 cfg0.N
      ∧ r.2.mem ((c.tc : Thread nD τ).loc main_v3_2) = (Product.dat (V2 m ρ) c).arrAt 6 cfg1.N
      ∧ r.2.mem ((c.tc : Thread nD τ).loc main_v2_1) = (Amax.dat (V1 m ρ) c).arrAt 3 cfg0.N) :=
  (θ_run defs _ _).mono (fun _ h c =>
    ⟨(h.1 c _ (mem_uc main_v3_0 (by decide))).trans (W3_arr m ρ c 4),
     (h.1 c _ (mem_uc main_v3_1 (by decide))).trans (W3_arr m ρ c 5),
     (h.1 c _ (mem_uc main_v2_0 (by decide))).trans ((W3_of m ρ c main_v2_0 (by decide +kernel)).trans (W2_arr m ρ c 2)),
     (h.1 c _ (mem_uc main_v3_2 (by decide))).trans (W3_arr m ρ c 6),
     (h.1 c _ (mem_uc main_v2_1 (by decide))).trans ((W3_of m ρ c main_v2_1 (by decide +kernel)).trans (W2_arr m ρ c 3))⟩) (run m ρ)

/-! ## What the product kernel finds: the scales as the maximum kernel leaves them, the operands as reshaped -/

theorem V2_xs (c : Dev nD) : V2 m ρ c main_v2_0 = (Amax.dat (V1 m ρ) c).arrAt 2 cfg0.N := W2_arr m ρ c 2
theorem V2_ds (c : Dev nD) : V2 m ρ c main_v2_1 = (Amax.dat (V1 m ρ) c).arrAt 3 cfg0.N := W2_arr m ρ c 3
theorem V2_x (c : Dev nD) : V2 m ρ c main_v0 = V1 m ρ c main_v0 := W2_of m ρ c main_v0 (by decide +kernel)
theorem V2_dy (c : Dev nD) : V2 m ρ c main_v1 = V1 m ρ c main_v1 := W2_of m ρ c main_v1 (by decide +kernel)

end Cert.Kernel.Whole

end
-- ==== Proof.AmaxRunsIdeal.lean ====
/- What the body of the maximum kernel leaves in the buffers it is handed, control case by control case. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Amax

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The scale of a maximum -/

/-- One step of the search for the exponent field: add `k` to the field when the power of two it then stands for is at most `t`. -/
def step (t : F .f32) (b k : BitVec 32) : BitVec 32 :=
  Scalar.select (Scalar.cmpf .oge t (Scalar.ofBits .f32 (Scalar.shli (Scalar.addi b k) 23#32))) (Scalar.addi b k) b

/-- The exponent field, found bit by bit. -/
def field (t : F .f32) : BitVec 32 :=
  step t (step t (step t (step t (step t (step t (step t (step t 0#32 128#32) 64#32) 32#32) 16#32) 8#32) 4#32) 2#32) 1#32

/-- The scale an exponent field gives: two to the exponent plus one, and 1 for the two special fields. -/
def scaleOfField (b : BitVec 32) : F .f32 :=
  Scalar.ofBits .f32 (Scalar.shli (Scalar.addi (Scalar.select (Scalar.ori (Scalar.cmpi .eq b 0#32) (Scalar.cmpi .eq b 255#32)) 0#32 (Scalar.subi b 126#32)) 127#32) 23#32)

/-- The scale of x from the running maxima, and the scale of dy. -/
def xScale (v : Vec F S16x1280 .bf16) : F .f32 := scaleOfField (F := F) (field (k0_pay9 v))
def dyScale (v : Vec F S16x5120 .bf16) : F .f32 := scaleOfField (F := F) (field (k0_pay15 (k0_pay8 v)))

/-- Equal contents have equal windows. -/
theorem window_congr {α : Type} {s : Shape} {x x' : s.Idx → α} {off size : Fin s.rank → ℕ} (inb : ∀ a, off a + size a ≤ s.size a) (hx : x = x') :
    VecWindow.window x off size inb = VecWindow.window x' off size inb := by rw [hx]

/-- A load of the window just stored, whatever the contents below, reads the payload. -/
theorem readCov_same {sg : RefSig} {κ : Kind} {sp : Space} {s : Shape} {e : EltTy} (v : View sg κ sp s e) {off off' off'' size : Fin s.rank → ℕ} (inb : ∀ a, off a + size a ≤ s.size a)
    (inb' : ∀ a, off' a + size a ≤ s.size a) (inb'' : ∀ a, off'' a + size a ≤ s.size a) (h : off = off'') (h' : off' = off'') (w : (Rect.unit off' size inb').shape.Idx → Elt F e) :
    v.readCov [⟨Rect.unit off' size inb', w⟩] (Rect.unit off size inb).toLoadRect = w := by
  subst h; subst h'
  refine (View.readAt_unit v _ inb rfl inb'').trans ((window_congr inb'' (View.read_writes_cons_put v v.junk inb w [] rfl)).trans ?_)
  exact VecWindow.window_put_same _ _ _ inb'' _

/-! ## The branch conditions -/

/-- The first point starts the maxima, the later ones continue them, the last one makes the scales. -/
abbrev first (i : grid0.Coords) : Prop := (Scalar.cmpi .ne (Scalar.extui (Scalar.cmpi .eq (BitVec.ofNat 32 (i 0).val) 0#32)) 0#32) = 1#1
abbrev later (i : grid0.Coords) : Prop := (Scalar.cmpi .ne (Scalar.extui (Scalar.cmpi .sgt (BitVec.ofNat 32 (i 0).val) 0#32)) 0#32) = 1#1

set_option maxHeartbeats 1000000 in
/-- The first point: the maxima over the first blocks. -/
theorem run_A (c : Dev nD) (i : grid0.Coords) (arg1 : Memref sig .tc .vmem S512x1280 .bf16) (harg1 : arg1.IsWhole) (arg2 : Memref sig .tc .vmem S512x5120 .bf16) (harg2 : arg2.IsWhole) (arg3 : Memref sig .tc .smem S1 .f32) (harg3 : arg3.IsWhole) (arg4 : Memref sig .tc .smem S1 .f32) (harg4 : arg4.IsWhole) (arg5 : Memref sig .tc .vmem S16x1280 .bf16) (harg5 : arg5.IsWhole) (arg6 : Memref sig .tc .vmem S16x5120 .bf16) (harg6 : arg6.IsWhole)
    (hc0 : first i) (hc1 : ¬ later i) (hc2 : ¬ k0_cond3 i = 1#1)
    (x0 : Vec F S512x1280 .bf16) (x1 : Vec F S512x5120 .bf16)
    (E : Set ℕ) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg5 fullShare (k0_pay3 x0) ∗ owns (c : Thread nD τ) arg6 fullShare (k0_pay4 x1)) -∗ K ⟨⟩))
      ⊢ wp frame (wpE (defs₀ (F := F)) Variants.none c none) E (cc0_amax i arg1 harg1 arg2 harg2 arg3 harg3 arg4 harg4 arg5 harg5 arg6 harg6) K := by
  simp only [cc0_amax_eq_skeleton]; unfold cc0_amax_skel
  simp only [k0_part1_eq_skeleton, k0_part2_eq_skeleton, k0_part3_eq_skeleton]
  unfold owns
  iintro ⟨⟨%f1, %hf1, H1⟩, ⟨%f2, %hf2, H2⟩, ⟨%d5, %f5, -, H5⟩, ⟨%d6, %f6, -, H6⟩, Hk⟩
  sl_exec (disch := first | sl_exact hc0 | sl_exact hc1 | sl_exact hc2)
  sl_step
  iapply Hk
  isplitl [H1]
  · iexists _; isplitr; swap; · iexact H1
    ipureintro; exact hf1
  isplitl [H2]
  · iexists _; isplitr; swap; · iexact H2
    ipureintro; exact hf2
  isplitl [H5]
  · iexists _; isplitr; swap; · iexact H5
    ipureintro
    exact (View.read_writes_full _ _ _ _ _).trans (congrArg k0_pay3 ((View.readAt_full arg1.view f1 inb_S512x1280_S512x1280_0_0).trans hf1))
  iexists _; isplitr; swap; · iexact H6
  ipureintro
  exact (View.read_writes_full _ _ _ _ _).trans (congrArg k0_pay4 ((View.readAt_full arg2.view f2 inb_S512x5120_S512x5120_0_0).trans hf2))

set_option maxHeartbeats 1000000 in
/-- A middle point: the running maxima are continued. -/
theorem run_B (c : Dev nD) (i : grid0.Coords) (arg1 : Memref sig .tc .vmem S512x1280 .bf16) (harg1 : arg1.IsWhole) (arg2 : Memref sig .tc .vmem S512x5120 .bf16) (harg2 : arg2.IsWhole) (arg3 : Memref sig .tc .smem S1 .f32) (harg3 : arg3.IsWhole) (arg4 : Memref sig .tc .smem S1 .f32) (harg4 : arg4.IsWhole) (arg5 : Memref sig .tc .vmem S16x1280 .bf16) (harg5 : arg5.IsWhole) (arg6 : Memref sig .tc .vmem S16x5120 .bf16) (harg6 : arg6.IsWhole)
    (hc0 : ¬ first i) (hc1 : later i) (hc2 : ¬ k0_cond3 i = 1#1)
    (x0 : Vec F S512x1280 .bf16) (x1 : Vec F S512x5120 .bf16) (s0 : Vec F S16x1280 .bf16) (s1 : Vec F S16x5120 .bf16)
    (E : Set ℕ) (K : PUnit → sProp 𝕄) :
    iprop(owns (c : Thread nD τ) arg1 fullShare x0 ∗ owns (c : Thread nD τ) arg2 fullShare x1 ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg5 fullShare (k0_pay5 x0 s0) ∗ owns (c : Thread nD τ) arg6 fullShare (k0_pay6 x1 s1)) -∗ K ⟨⟩))
      ⊢ wp frame (wpE (defs₀ (F := F)) Variants.none c none) E (cc0_amax i arg1 harg1 arg2 harg2 arg3 harg3 arg4 harg4 arg5 harg5 arg6 harg6) K := by
  simp only [cc0_amax_eq_skeleton]; unfold cc0_amax_skel
  simp only [k0_part1_eq_skeleton, k0_part2_eq_skeleton, k0_part3_eq_skeleton]
  unfold owns
  iintro ⟨⟨%f1, %hf1, H1⟩, ⟨%f2, %hf2, H2⟩, ⟨%f5, %hf5, H5⟩, ⟨%f6, %hf6, H6⟩, Hk⟩
  sl_exec (disch := first | sl_exact hc0 | sl_exact hc1 | sl_exact hc2)
  sl_step
  iapply Hk
  isplitl [H1]
  · iexists _; isplitr; swap; · iexact H1
    ipureintro; exact hf1
  isplitl [H2]
  · iexists _; isplitr; swap; · iexact H2
    ipureintro; exact hf2
  isplitl [H5]
  · iexists _; isplitr; swap; · iexact H5
    ipureintro
    exact (View.read_writes_full _ _ _ _ _).trans (congrArg₂ k0_pay5 ((View.readAt_full arg1.view f1 inb_S512x1280_S512x1280_0_0).trans hf1) ((View.readAt_full arg5.view f5 inb_S16x1280_S16x1280_0_0).trans hf5))
  iexists _; isplitr; swap; · iexact H6
  ipureintro
  exact (View.read_writes_full _ _ _ _ _).trans (congrArg₂ k0_pay6 ((View.readAt_full arg2.view f2 inb_S512x5120_S512x5120_0_0).trans hf2) ((View.readAt_full arg6.view f6 inb_S16x5120_S16x5120_0_0).trans hf6))

set_option maxHeartbeats 1000000 in
/-- The last point: the running maxima are continued and the two scales are made of them. -/
theorem run_C (c : Dev nD) (i : grid0.Coords) (arg1 : Memref sig .tc .vmem S512x1280 .bf16) (harg1 : arg1.IsWhole) (arg2 : Memref sig .tc .vmem S512x5120 .bf16) (harg2 : arg2.IsWhole) (arg3 : Memref sig .tc .smem S1 .f32) (harg3 : arg3.IsWhole) (arg4 : Memref sig .tc .smem S1 .f32) (harg4 : arg4.IsWhole) (arg5 : Memref sig .tc .vmem S16x1280 .bf16) (harg5 : arg5.IsWhole) (arg6 : Memref sig .tc .vmem S16x5120 .bf16) (harg6 : arg6.IsWhole)
    (hc0 : ¬ first i) (hc1 : later i) (hc2 : k0_cond3 i = 1#1)
    (x0 : Vec F S512x1280 .bf16) (x1 : Vec F S512x5120 .bf16) (s0 : Vec F S16x1280 .bf16) (s1 : Vec F S16x5120 .bf16)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare (fun _ => xScale (k0_pay5 x0 s0)) ∗ owns (c : Thread nD τ) arg4 fullShare (fun _ => dyScale (k0_pay6 x1 s1)) ∗ owns (c : Thread nD τ) arg5 fullShare (k0_pay5 x0 s0) ∗ owns (c : Thread nD τ) arg6 fullShare (k0_pay6 x1 s1)) -∗ K ⟨⟩))
      ⊢ wp frame (wpE (defs₀ (F := F)) Variants.none c none) E (cc0_amax i arg1 harg1 arg2 harg2 arg3 harg3 arg4 harg4 arg5 harg5 arg6 harg6) K := by
  simp only [cc0_amax_eq_skeleton]; unfold cc0_amax_skel
  simp only [k0_part1_eq_skeleton, k0_part2_eq_skeleton, k0_part3_eq_skeleton]
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  sl_exec (disch := first | sl_exact hc0 | sl_exact hc1 | sl_exact hc2)
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [View.read_writes_full]
    refine funext fun _ => (show _ = xScale (run_C.sl.v19 c arg1 arg5 f1 f5) from rfl).trans (congrArg xScale ?_)
    unfold run_C.sl.v19
    exact (readCov_same arg5.view _ _ inb_S16x1280_S16x1280_0_0 rfl rfl _).trans (congrArg₂ k0_pay5 ((View.readAt_full arg1.view f1 inb_S512x1280_S512x1280_0_0).trans hf1) ((View.readAt_full arg5.view f5 inb_S16x1280_S16x1280_0_0).trans hf5))
  isplitl [H4]
  · iexists _; isplitr; swap; · iexact H4
    ipureintro
    rw [View.read_writes_full]
    refine funext fun _ => (show _ = dyScale (run_C.sl.v25 c arg2 arg6 f2 f6) from rfl).trans (congrArg dyScale ?_)
    unfold run_C.sl.v25
    exact (readCov_same arg6.view _ _ inb_S16x5120_S16x5120_0_0 rfl rfl _).trans (congrArg₂ k0_pay6 ((View.readAt_full arg2.view f2 inb_S512x5120_S512x5120_0_0).trans hf2) ((View.readAt_full arg6.view f6 inb_S16x5120_S16x5120_0_0).trans hf6))
  isplitl [H5]
  · iexists _; isplitr; swap; · iexact H5
    ipureintro
    exact (View.read_writes_full _ _ _ _ _).trans (congrArg₂ k0_pay5 ((View.readAt_full arg1.view f1 inb_S512x1280_S512x1280_0_0).trans hf1) ((View.readAt_full arg5.view f5 inb_S16x1280_S16x1280_0_0).trans hf5))
  iexists _; isplitr; swap; · iexact H6
  ipureintro
  exact (View.read_writes_full _ _ _ _ _).trans (congrArg₂ k0_pay6 ((View.readAt_full arg2.view f2 inb_S512x5120_S512x5120_0_0).trans hf2) ((View.readAt_full arg6.view f6 inb_S16x5120_S16x5120_0_0).trans hf6))

end Cert.KernelIdeal.Amax

end
-- ==== Proof.AmaxFrameIdeal.lean ====
/- The whole run of the maximum kernel, point by point: the running maxima, the proof data of its pipeline and its body obligation. -/
module

public import proofs.«01_k».proof.Proof.AmaxRunsIdeal

@[expose] public section

set_option maxRecDepth 16384

noncomputable section

namespace Cert.KernelIdeal.Amax

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule -/

theorem first_iff : ∀ t : Fin grid0.N, first (grid0.coords t) ↔ t.val = 0 := by decide +kernel
theorem later_iff : ∀ t : Fin grid0.N, later (grid0.coords t) ↔ 1 ≤ t.val := by decide +kernel
theorem last_iff : ∀ t : Fin grid0.N, k0_cond3 (grid0.coords t) = 1#1 ↔ t.val = 47 := by decide +kernel

/-- The scales' buffers are left alone but at the last point, and written back there only. -/
theorem idle2 : ∀ t : Fin grid0.N, idle0 2 (grid0.coords t) = decide (t.val < 47) := by decide +kernel
theorem idle3 : ∀ t : Fin grid0.N, idle0 3 (grid0.coords t) = decide (t.val < 47) := by decide +kernel
theorem flush2 : ∀ t : Fin grid0.N, win0_2.flush t = true ↔ t.val = 47 := by decide +kernel
theorem flush3 : ∀ t : Fin grid0.N, win0_3.flush t = true ↔ t.val = 47 := by decide +kernel

theorem lt_N (t : Fin cfg0.N) : t.val < 48 := lt_of_lt_of_eq t.isLt N_0

/-- The point numbered `n` (below 48). -/
abbrev pt (n : ℕ) : Fin cfg0.N := ⟨n % 48, lt_of_lt_of_eq (Nat.mod_lt _ (by decide)) N_0.symm⟩
theorem pt_self (t : Fin cfg0.N) : pt t.val = t := Fin.ext (Nat.mod_eq_of_lt (lt_N t))

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The running maxima -/

/-- The blocks of x and of dy at a point. -/
abbrev xb (c : Dev nD) (t : Fin cfg0.N) : Vec F S512x1280 .bf16 := iblk V c 0 t
abbrev db (c : Dev nD) (t : Fin cfg0.N) : Vec F S512x5120 .bf16 := iblk V c 1 t

/-- The running maxima of x after point `n`. -/
def mx (c : Dev nD) : ℕ → Vec F S16x1280 .bf16
  | 0 => k0_pay3 (xb V c (pt 0))
  | n + 1 => k0_pay5 (xb V c (pt (n + 1))) (mx c n)

/-- The running maxima of dy after point `n`. -/
def my (c : Dev nD) : ℕ → Vec F S16x5120 .bf16
  | 0 => k0_pay4 (db V c (pt 0))
  | n + 1 => k0_pay6 (db V c (pt (n + 1))) (my c n)

theorem mx_zero (c : Dev nD) (t : Fin cfg0.N) (h : t.val = 0) : k0_pay3 (iblk V c 0 t) = mx V c t.val := by
  rw [← pt_self t, h]; rfl
theorem my_zero (c : Dev nD) (t : Fin cfg0.N) (h : t.val = 0) : k0_pay4 (iblk V c 1 t) = my V c t.val := by
  rw [← pt_self t, h]; rfl
theorem mx_pos (c : Dev nD) (t : Fin cfg0.N) (h : 1 ≤ t.val) : k0_pay5 (iblk V c 0 t) (mx V c (t.val - 1)) = mx V c t.val := by
  obtain ⟨n, hn⟩ : ∃ n, t.val = n + 1 := ⟨t.val - 1, by omega⟩
  rw [show iblk V c 0 t = iblk V c 0 (pt (n + 1)) by rw [← hn, pt_self], hn]; rfl
theorem my_pos (c : Dev nD) (t : Fin cfg0.N) (h : 1 ≤ t.val) : k0_pay6 (iblk V c 1 t) (my V c (t.val - 1)) = my V c t.val := by
  obtain ⟨n, hn⟩ : ∃ n, t.val = n + 1 := ⟨t.val - 1, by omega⟩
  rw [show iblk V c 1 t = iblk V c 1 (pt (n + 1)) by rw [← hn, pt_self], hn]; rfl

/-! ## The invariant and the proof data -/

/-- The scratch operands: the running maxima of x and of dy. -/
abbrev scM0_0 : Memref sig .tc .vmem S16x1280 .bf16 := Memref.whole cc0_scratch0
abbrev scM0_1 : Memref sig .tc .vmem S16x5120 .bf16 := Memref.whole cc0_scratch1

/-- A scoped buffer of the other call, whole at some contents. -/
abbrev anyAt (c : Dev nD) (b : Ref sig .tc) : sProp 𝕄 := iprop(∃ f : Buf (Elt F) ((c : Thread nD τ).loc b), ((c : Thread nD τ).loc b) ↦{fullShare} f)

/-- The scoped buffers that ride along: those of the other call. -/
abbrev Rest (c : Dev nD) : sProp 𝕄 := iprop(anyAt c cc1_stg2_0 ∗ anyAt c cc1_stg2_1 ∗ anyAt c cc1_stg3_0 ∗ anyAt c cc1_stg3_1 ∗ anyAt c cc1_stg4_0 ∗ anyAt c cc1_stg4_1 ∗ anyAt c cc1_stg5_0 ∗ anyAt c cc1_stg5_1 ∗ anyAt c cc1_stg6_0 ∗ anyAt c cc1_stg6_1 ∗ anyAt c cc1_scratch0 ∗ anyAt c cc1_scratch1 ∗ anyAt c cc1_stg0_0 ∗ anyAt c cc1_stg1_0)

/-- What the launch hands the region, with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest c) ∗ (∃ r, prngReg c r)) := by
  unfold Pipeline.ΦA
  rw [Pipeline.scopedRest_eq_of_list spec0 c [cc0_scratch0, cc0_scratch1, cc1_stg2_0, cc1_stg2_1, cc1_stg3_0, cc1_stg3_1, cc1_stg4_0, cc1_stg4_1, cc1_stg5_0, cc1_stg5_1, cc1_stg6_0, cc1_stg6_1, cc1_scratch0, cc1_scratch1, cc1_stg0_0, cc1_stg1_0] (by decide) (by decide)]
  simp only [scM0_0, scM0_1, owns_whole]; try rfl

/-- The region's invariant before point `n`: from the second point on the scratch at the running maxima. -/
def PhiS (c : Dev nD) (n : ℕ) (_ : n ≤ cfg0.N) : sProp 𝕄 :=
  iprop(∃ a, ∃ b, ⌜1 ≤ n → a = mx V c (n - 1) ∧ b = my V c (n - 1)⌝ ∗ owns (c : Thread nD τ) scM0_0 fullShare a ∗ owns (c : Thread nD τ) scM0_1 fullShare b ∗ Rest c ∗ (∃ r, prngReg c r))

/-- The proof data: the arrays as the region finds them; after the body each input's buffer at its block, each scale's at the
    scale of the running maxima. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => fun _ => xScale (mx V c t.val)
    | ⟨3, _⟩ => fun _ => dyScale (my V c t.val)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = fun _ => xScale (mx V c t.val) := by dsimp only [dat]
theorem after0_3 (c : Dev nD) (t : Fin cfg0.N) : (dat V c).after 3 t = fun _ => dyScale (my V c t.val) := by dsimp only [dat]

theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

/-- An input's buffer is left at its block. -/
theorem leaves0 (c : Dev nD) (t : Fin cfg0.N) : (dat V c).leavesExact 0 t = owns (c : Thread nD τ) (st0_0 t) fullShare (iblk V c 0 t) := by
  unfold Dat.leavesExact; rw [show cfg0.idle 0 (cfg0.grid.coords t) = false from rfl]; dsimp only; rw [after0_0]
theorem leaves1 (c : Dev nD) (t : Fin cfg0.N) : (dat V c).leavesExact 1 t = owns (c : Thread nD τ) (st0_1 t) fullShare (iblk V c 1 t) := by
  unfold Dat.leavesExact; rw [show cfg0.idle 1 (cfg0.grid.coords t) = false from rfl]; dsimp only; rw [after0_1]

/-- A scale's buffer at the last point. -/
theorem leaves2_live (c : Dev nD) (t : Fin cfg0.N) (h : t.val = 47) : (dat V c).leavesExact 2 t = owns (c : Thread nD τ) (st0_2 t) fullShare (fun _ => xScale (mx V c t.val)) := by
  unfold Dat.leavesExact
  rw [show cfg0.idle 2 (cfg0.grid.coords t) = false from (idle2 t).trans (decide_eq_false (by omega))]; dsimp only; rw [after0_2]
theorem leaves3_live (c : Dev nD) (t : Fin cfg0.N) (h : t.val = 47) : (dat V c).leavesExact 3 t = owns (c : Thread nD τ) (st0_3 t) fullShare (fun _ => dyScale (my V c t.val)) := by
  unfold Dat.leavesExact
  rw [show cfg0.idle 3 (cfg0.grid.coords t) = false from (idle3 t).trans (decide_eq_false (by omega))]; dsimp only; rw [after0_3]

/-- A scale's buffer at the other points. -/
theorem leaves2_idle (c : Dev nD) (t : Fin cfg0.N) (h : t.val < 47) :
    (dat V c).leavesExact 2 t = iprop(∃ d, owns (c : Thread nD τ) (st0_2 t) fullShare ((dat V c).before 2 t d)) :=
  (dat V c).leavesExact_idle 2 t ((idle2 t).trans (decide_eq_true h)) (Bool.eq_false_iff.mpr fun h' => absurd ((flush2 t).mp h') (by omega))
theorem leaves3_idle (c : Dev nD) (t : Fin cfg0.N) (h : t.val < 47) :
    (dat V c).leavesExact 3 t = iprop(∃ d, owns (c : Thread nD τ) (st0_3 t) fullShare ((dat V c).before 3 t d)) :=
  (dat V c).leavesExact_idle 3 t ((idle3 t).trans (decide_eq_true h)) (Bool.eq_false_iff.mpr fun h' => absurd ((flush3 t).mp h') (by omega))

set_option maxHeartbeats 4800000 in
/-- The body at any point: the first, a middle or the last one, the scratch at the invariant before and after. -/
theorem sound_body (c : Dev nD) (t : Fin cfg0.N) :
    bodyPre V c t ⊢ wp frame (wpE (defs₀ (F := F)) Variants.none c none) Set.univ (bodyAt0 t) (fun _ => bodyPost V c t) := by
  have hN := lt_N t
  unfold bodyPre bodyPost bodyAt0
  simp only [before0_0, before0_1]
  rw [show (dat V c).owesAt () t.succ = (dat V c).owesAt () t.castSucc from rfl]
  rw [show (dat V c).Φ t.succ = PhiS V c (t.val + 1) t.isLt from rfl, PhiS_castSucc V c t]
  rw [leaves0, leaves1]
  unfold PhiS
  by_cases h0 : t.val = 0
  · rw [leaves2_idle V c t (by omega), leaves3_idle V c t (by omega)]
    iintro ⟨⟨%a, %b, %hI, HS0, HS1, Hg⟩, Ho, ⟨%d0, H0⟩, ⟨%d1, H1⟩, H2, H3⟩
    iapply (run_A c (grid0.coords t) _ _ _ _ _ _ _ _ _ _ _ _ ((first_iff t).mpr h0) (fun h => absurd ((later_iff t).mp h) (by omega)) (fun h => absurd ((last_iff t).mp h) (by omega))
      (iblk V c 0 t) (iblk V c 1 t) Set.univ _)
    isplitl [H0]; · iexact H0
    isplitl [H1]; · iexact H1
    isplitl [HS0]; · iexists _; iexact HS0
    isplitl [HS1]; · iexists _; iexact HS1
    iintro ⟨H0, H1, HS0, HS1⟩
    isplitl [HS0 HS1 Hg]
    · iexists _; iexists _
      isplitr; swap
      · isplitl [HS0]; · iexact HS0
        isplitl [HS1]; · iexact HS1
        iexact Hg
      ipureintro
      exact fun _ => ⟨mx_zero V c t h0, my_zero V c t h0⟩
    isplitl [Ho]; · iexact Ho
    isplitl [H0]; · iexact H0
    isplitl [H1]; · iexact H1
    isplitl [H2]; · iexact H2
    iexact H3
  · have h1 : 1 ≤ t.val := by omega
    by_cases h2 : t.val = 47
    · rw [leaves2_live V c t h2, leaves3_live V c t h2]
      iintro ⟨⟨%a, %b, %hI, HS0, HS1, Hg⟩, Ho, ⟨%d0, H0⟩, ⟨%d1, H1⟩, ⟨%d2, H2⟩, ⟨%d3, H3⟩⟩
      obtain ⟨rfl, rfl⟩ := hI h1
      iapply (run_C c (grid0.coords t) _ _ _ _ _ _ _ _ _ _ _ _ (fun h => absurd ((first_iff t).mp h) h0) ((later_iff t).mpr h1) ((last_iff t).mpr h2)
        (iblk V c 0 t) (iblk V c 1 t) _ _ Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hg]
      · iexists _; iexists _
        isplitr; swap
        · isplitl [HS0]; · iexact HS0
          isplitl [HS1]; · iexact HS1
          iexact Hg
        ipureintro
        exact fun _ => ⟨mx_pos V c t h1, my_pos V c t h1⟩
      isplitl [Ho]; · iexact Ho
      isplitl [H0]; · iexact H0
      isplitl [H1]; · iexact H1
      isplitl [H2]
      · rw [← mx_pos V c t (by omega)]; iexact H2
      rw [← my_pos V c t (by omega)]; iexact H3
    · rw [leaves2_idle V c t (by omega), leaves3_idle V c t (by omega)]
      iintro ⟨⟨%a, %b, %hI, HS0, HS1, Hg⟩, Ho, ⟨%d0, H0⟩, ⟨%d1, H1⟩, H2, H3⟩
      obtain ⟨rfl, rfl⟩ := hI h1
      iapply (run_B c (grid0.coords t) _ _ _ _ _ _ _ _ _ _ _ _ (fun h => absurd ((first_iff t).mp h) h0) ((later_iff t).mpr h1) (fun h => absurd ((last_iff t).mp h) h2)
        (iblk V c 0 t) (iblk V c 1 t) _ _ Set.univ _)
      isplitl [H0]; · iexact H0
      isplitl [H1]; · iexact H1
      isplitl [HS0]; · iexact HS0
      isplitl [HS1]; · iexact HS1
      iintro ⟨H0, H1, HS0, HS1⟩
      isplitl [HS0 HS1 Hg]
      · iexists _; iexists _
        isplitr; swap
        · isplitl [HS0]; · iexact HS0
          isplitl [HS1]; · iexact HS1
          iexact Hg
        ipureintro
        exact fun _ => ⟨mx_pos V c t h1, my_pos V c t h1⟩
      isplitl [Ho]; · iexact Ho
      isplitl [H0]; · iexact H0
      isplitl [H1]; · iexact H1
      isplitl [H2]; · iexact H2
      iexact H3

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region is the invariant before the first point; -/
theorem hin (c : Dev nD) : Pipeline.ΦA spec0 c ⊢ (dat V c).Φ 0 := by
  rw [show (dat V c).Φ 0 = PhiS V c 0 (Nat.zero_le _) from rfl, PhiA0_eq]
  unfold PhiS
  iintro ⟨⟨⟨%a, HS0⟩, ⟨%b, HS1⟩, Hr⟩, Hg⟩
  iexists a; iexists b
  isplitr; swap
  · isplitl [HS0]; · iexact HS0
    isplitl [HS1]; · iexact HS1
    isplitl [Hr]; · iexact Hr
    iexact Hg
  ipureintro
  exact fun h => absurd h (Nat.not_succ_le_zero _)

/-- after the last point the invariant gives it back. -/
theorem hout (c : Dev nD) : (dat V c).Φ (Fin.last cfg0.N) ⊢ Pipeline.ΦA spec0 c := by
  rw [show (dat V c).Φ (Fin.last cfg0.N) = PhiS V c cfg0.N le_rfl from rfl, PhiA0_eq]
  unfold PhiS
  iintro ⟨%a, %b, -, HS0, HS1, Hr, Hg⟩
  isplitl [HS0 HS1 Hr]
  · isplitl [HS0]
    · iexists _; iexact HS0
    isplitl [HS1]
    · iexists _; iexact HS1
    iexact Hr
  iexact Hg

end Cert.KernelIdeal.Amax

end
-- ==== Proof.ProductRunsIdeal.lean ====
/- What the body of the product kernel leaves in the buffers it is handed, control case by control case. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Product

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one element of a one-element array. -/
abbrev sc (x : Vec F S1 .f32) : Elt F .f32 := x (Shape.Idx.first (by decide : 0 < S1.numel))

/-- The word that says whether the accumulator is started afresh: 1 exactly at the second grid row. -/
abbrev startW (i : grid1.Coords) : BitVec 1 := Scalar.cmpi .eq (Scalar.subi (BitVec.ofNat 32 (i 0).val) 1#32) 0#32

/-- The rows of quantised x the body puts into the two-slab buffer `a10`: 128 rows of slab `p`. -/
abbrev put10 (x0 : Vec F S1 .f32) (x2 : Vec F S2048x128 .bf16) (a10 : Vec F S2x1280x2048 .fp8e4m3) (p n : ℕ) : Vec F S2x1280x2048 .fp8e4m3 :=
  VecWindow.put a10 ![p, 128 * n, 0] S1x128x2048.size (k1_pay2 x2 (sc x0))

/-- The new contents of block `n` of the accumulator: slab `q` times the quantised block of dy, added to the old contents unless started afresh. -/
abbrev new9 (i : grid1.Coords) (x1 : Vec F S1 .f32) (x3 : Vec F S2048x512 .bf16) (a9 : Vec F S10x1280x512 .f32) (a10 : Vec F S2x1280x2048 .fp8e4m3) (q n : ℕ)
    (inq : ∀ a, (![q, 0, 0] : Fin 3 → ℕ) a + S1x1280x2048.size a ≤ S2x1280x2048.size a) (inn : ∀ a, (![n, 0, 0] : Fin 3 → ℕ) a + S1x1280x512.size a ≤ S10x1280x512.size a) : FVec F S1x1280x512 .f32 :=
  k1_pay3 (k1_pay8 x3 (sc x1) (VecWindow.window a10 ![q, 0, 0] S1x1280x2048.size inq)) (startW i) (VecWindow.window a9 ![n, 0, 0] S1x1280x512.size inn)

/-- The accumulator with its block `n` updated. -/
abbrev put9 (i : grid1.Coords) (x1 : Vec F S1 .f32) (x3 : Vec F S2048x512 .bf16) (a9 : Vec F S10x1280x512 .f32) (a10 : Vec F S2x1280x2048 .fp8e4m3) (q n : ℕ)
    (inq : ∀ a, (![q, 0, 0] : Fin 3 → ℕ) a + S1x1280x2048.size a ≤ S2x1280x2048.size a) (inn : ∀ a, (![n, 0, 0] : Fin 3 → ℕ) a + S1x1280x512.size a ≤ S10x1280x512.size a) : Vec F S10x1280x512 .f32 :=
  VecWindow.put a9 ![n, 0, 0] S1x1280x512.size (new9 i x1 x3 a9 a10 q n inq inn)

/-- Reading the one word of a one-element buffer gives its one element. -/
theorem readAt_one (m : Memref sig .tc .smem S1 .f32) (f : m.view.ty.Contents (Elt F)) (x0 : Vec F S1 .f32) (hf : m.view.read (Elt F) f = x0) (y) :
    m.view.readAt (Elt F) (Rect.unit (s := S1) ![0] S1.size inb_S1_S1_0).toLoadRect f y = sc x0 := by
  rw [View.readAt_full, hf]
  refine congrArg x0 (funext fun a => Fin.ext ?_)
  match a with
  | ⟨0, _⟩ => exact Nat.lt_one_iff.mp (y 0).isLt

/-- `new9` from the loads it is computed of. -/
theorem new9_eq (i : grid1.Coords) {x1 : Vec F S1 .f32} {x3 : Vec F S2048x512 .bf16} {a9 : Vec F S10x1280x512 .f32} {a10 : Vec F S2x1280x2048 .fp8e4m3} {q n : ℕ}
    {inq : ∀ a, (![q, 0, 0] : Fin 3 → ℕ) a + S1x1280x2048.size a ≤ S2x1280x2048.size a} {inn : ∀ a, (![n, 0, 0] : Fin 3 → ℕ) a + S1x1280x512.size a ≤ S10x1280x512.size a}
    {v8 : Vec F S2048x512 .bf16} {v10 : Elt F .f32} {v41 : Vec F S1x1280x2048 .fp8e4m3} {v46 : Vec F S1x1280x512 .f32}
    (h8 : v8 = x3) (h10 : v10 = sc x1) (h41 : v41 = VecWindow.window a10 ![q, 0, 0] S1x1280x2048.size inq) (h46 : v46 = VecWindow.window a9 ![n, 0, 0] S1x1280x512.size inn) :
    k1_pay3 (k1_pay8 v8 v10 v41) (startW i) v46 = new9 i x1 x3 a9 a10 q n inq inn := by
  subst h8 h10 h41 h46; rfl

/-- Equal payloads put over equal contents give equal contents. -/
theorem put_congr {α : Type} {s : Shape} {x x' : s.Idx → α} {off size : Fin s.rank → ℕ} {w w' : ((a : Fin s.rank) → Fin (size a)) → α} (hx : x = x') (hw : w = w') :
    VecWindow.put x off size w = VecWindow.put x' off size w' := by rw [hx, hw]

/-- Equal contents have equal windows. -/
theorem window_congr {α : Type} {s : Shape} {x x' : s.Idx → α} {off size : Fin s.rank → ℕ} (inb : ∀ a, off a + size a ≤ s.size a) (hx : x = x') :
    VecWindow.window x off size inb = VecWindow.window x' off size inb := by rw [hx]

/-- The last payload from the loads it is computed of. -/
theorem pay4_congr {v58 v58' : Vec F S1x1280x512 .f32} {v60 v60' v61 v61' : Elt F .f32} (h : v58 = v58') (h0 : v60 = v60') (h1 : v61 = v61') :
    k1_pay4 v58 v60 v61 = k1_pay4 v58' v60' v61' := by rw [h, h0, h1]

/-- A load of the window just stored, whatever the contents below, reads the payload. -/
theorem readCov_same {sg : RefSig} {κ : Kind} {sp : Space} {s : Shape} {e : EltTy} (v : View sg κ sp s e) {off off' off'' size : Fin s.rank → ℕ} (inb : ∀ a, off a + size a ≤ s.size a)
    (inb' : ∀ a, off' a + size a ≤ s.size a) (inb'' : ∀ a, off'' a + size a ≤ s.size a) (h : off = off'') (h' : off' = off'') (w : (Rect.unit off' size inb').shape.Idx → Elt F e) :
    v.readCov [⟨Rect.unit off' size inb', w⟩] (Rect.unit off size inb).toLoadRect = w := by
  subst h; subst h'
  refine (View.readAt_unit v _ inb rfl inb'').trans ((window_congr inb'' (View.read_writes_cons_put v v.junk inb w [] rfl)).trans ?_)
  exact VecWindow.window_put_same _ _ _ inb'' _

set_option maxHeartbeats 1000000 in
/-- First grid row: the block of x is quantised and stored, nothing is multiplied. -/
theorem run_A (c : Dev nD) (i : grid1.Coords) (arg2 : Memref sig .tc .smem S1 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S128x2048 .fp8e4m3) (harg7 : arg7.IsWhole) (arg8 : Memref sig .tc .vmem S512x2048 .fp8e5m2) (harg8 : arg8.IsWhole) (arg9 : Memref sig .tc .vmem S10x1280x512 .f32) (harg9 : arg9.IsWhole) (arg10 : Memref sig .tc .vmem S2x1280x2048 .fp8e4m3) (harg10 : arg10.IsWhole)
    (hc1 : k1_cond1 i = 1#1) (hc2 : ¬ k1_cond2 i = 1#1)
    (p q n : ℕ) (hpq : p + q = 1) (h1 : k1_off1 i = ![p, 128 * n, 0]) (h2 : k1_off2 i = ![q, 0, 0]) (h3 : k1_off3 i = ![n, 0, 0]) (h4 : k1_off4 i = ![n, 0, 0])
    (inq : ∀ a, (![q, 0, 0] : Fin 3 → ℕ) a + S1x1280x2048.size a ≤ S2x1280x2048.size a) (inn : ∀ a, (![n, 0, 0] : Fin 3 → ℕ) a + S1x1280x512.size a ≤ S10x1280x512.size a)
    (x0 x1 : Vec F S1 .f32) (x2 : Vec F S2048x128 .bf16) (x3 : Vec F S2048x512 .bf16) (a9 : Vec F S10x1280x512 .f32) (a10 : Vec F S2x1280x2048 .fp8e4m3)
    (E : Set ℕ) (K : PUnit → sProp 𝕄) :
    iprop(owns (c : Thread nD τ) arg2 fullShare x0 ∗ owns (c : Thread nD τ) arg4 fullShare x2 ∗ (∃ d, owns (c : Thread nD τ) arg7 fullShare d) ∗ owns (c : Thread nD τ) arg10 fullShare a10
        ∗ (iprop(owns (c : Thread nD τ) arg2 fullShare x0 ∗ owns (c : Thread nD τ) arg4 fullShare x2 ∗ owns (c : Thread nD τ) arg7 fullShare (k1_pay1 x2 (sc x0)) ∗ owns (c : Thread nD τ) arg10 fullShare (put10 x0 x2 a10 p n)) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton]
  unfold owns
  iintro ⟨⟨%f2, %hf2, H2⟩, ⟨%f4, %hf4, H4⟩, ⟨%d7, %f7, -, H7⟩, ⟨%f10, %hf10, H10⟩, Hk⟩
  letI : ClosedOff (k1_off1 i) := ⟨![p, 128 * n, 0], h1⟩
  letI : ClosedOff (k1_off2 i) := ⟨![q, 0, 0], h2⟩
  letI : ClosedOff (k1_off3 i) := ⟨![n, 0, 0], h3⟩
  letI : ClosedOff (k1_off4 i) := ⟨![n, 0, 0], h4⟩
  sl_exec (disch := first | sl_exact hc1 | sl_exact hc2)
  sl_step
  iapply Hk
  isplitl [H2]
  · iexists _; isplitr; swap; · iexact H2
    ipureintro; exact hf2
  isplitl [H4]
  · iexists _; isplitr; swap; · iexact H4
    ipureintro; exact hf4
  isplitl [H7]
  · iexists _; isplitr; swap; · iexact H7
    ipureintro
    exact (View.read_writes_full _ _ _ _ _).trans (congrArg₂ k1_pay1 ((View.readAt_full arg4.view f4 inb_S2048x128_S2048x128_0_0).trans hf4) (readAt_one arg2 f2 x0 hf2 (Shape.Idx.first (numel1_S1.symm ▸ Nat.one_pos))))
  iexists _; isplitr; swap; · iexact H10
  ipureintro
  exact (View.read_writes_cons_put arg10.view f10 _ _ [] h1).trans (put_congr hf10 (congrArg₂ k1_pay2 ((View.readAt_full arg4.view f4 inb_S2048x128_S2048x128_0_0).trans hf4) (readAt_one arg2 f2 x0 hf2 (Shape.Idx.first (numel1_S1.symm ▸ Nat.one_pos)))))

set_option maxHeartbeats 1000000 in
/-- A middle grid row: the block of x is quantised for the next row, the block of dy is quantised and multiplied by the slab the row before filled. -/
theorem run_B (c : Dev nD) (i : grid1.Coords) (arg2 : Memref sig .tc .smem S1 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S128x2048 .fp8e4m3) (harg7 : arg7.IsWhole) (arg8 : Memref sig .tc .vmem S512x2048 .fp8e5m2) (harg8 : arg8.IsWhole) (arg9 : Memref sig .tc .vmem S10x1280x512 .f32) (harg9 : arg9.IsWhole) (arg10 : Memref sig .tc .vmem S2x1280x2048 .fp8e4m3) (harg10 : arg10.IsWhole)
    (hc1 : k1_cond1 i = 1#1) (hc2 : k1_cond2 i = 1#1) (hc3 : ¬ k1_cond3 i = 1#1)
    (p q n : ℕ) (hpq : p + q = 1) (h1 : k1_off1 i = ![p, 128 * n, 0]) (h2 : k1_off2 i = ![q, 0, 0]) (h3 : k1_off3 i = ![n, 0, 0]) (h4 : k1_off4 i = ![n, 0, 0])
    (inq : ∀ a, (![q, 0, 0] : Fin 3 → ℕ) a + S1x1280x2048.size a ≤ S2x1280x2048.size a) (inn : ∀ a, (![n, 0, 0] : Fin 3 → ℕ) a + S1x1280x512.size a ≤ S10x1280x512.size a)
    (x0 x1 : Vec F S1 .f32) (x2 : Vec F S2048x128 .bf16) (x3 : Vec F S2048x512 .bf16) (a9 : Vec F S10x1280x512 .f32) (a10 : Vec F S2x1280x2048 .fp8e4m3)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d) ∗ (∃ d, owns (c : Thread nD τ) arg8 fullShare d) ∗ owns (c : Thread nD τ) arg9 fullShare a9 ∗ owns (c : Thread nD τ) arg10 fullShare a10
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare (k1_pay1 x2 (sc x0)) ∗ owns (c : Thread nD τ) arg8 fullShare (k1_pay7 x3 (sc x1)) ∗ owns (c : Thread nD τ) arg9 fullShare (put9 i x1 x3 a9 a10 q n inq inn) ∗ owns (c : Thread nD τ) arg10 fullShare (put10 x0 x2 a10 p n)) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton]
  unfold owns
  iintro ⟨⟨%f2, %hf2, H2⟩, ⟨%f3, %hf3, H3⟩, ⟨%f4, %hf4, H4⟩, ⟨%f5, %hf5, H5⟩, ⟨%d7, %f7, -, H7⟩, ⟨%d8, %f8, -, H8⟩, ⟨%f9, %hf9, H9⟩, ⟨%f10, %hf10, H10⟩, Hk⟩
  letI : ClosedOff (k1_off1 i) := ⟨![p, 128 * n, 0], h1⟩
  letI : ClosedOff (k1_off2 i) := ⟨![q, 0, 0], h2⟩
  letI : ClosedOff (k1_off3 i) := ⟨![n, 0, 0], h3⟩
  letI : ClosedOff (k1_off4 i) := ⟨![n, 0, 0], h4⟩
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H7]
  · iexists _; isplitr; swap; · iexact H7
    ipureintro
    exact (View.read_writes_full _ _ _ _ _).trans (congrArg₂ k1_pay1 ((View.readAt_full arg4.view f4 inb_S2048x128_S2048x128_0_0).trans hf4) (readAt_one arg2 f2 x0 hf2 (Shape.Idx.first (numel1_S1.symm ▸ Nat.one_pos))))
  isplitl [H8]
  · iexists _; isplitr; swap; · iexact H8
    ipureintro
    exact (View.read_writes_full _ _ _ _ _).trans (congrArg₂ k1_pay7 ((View.readAt_full arg5.view f5 inb_S2048x512_S2048x512_0_0).trans hf5) (readAt_one arg3 f3 x1 hf3 (Shape.Idx.first (numel1_S1.symm ▸ Nat.one_pos))))
  isplitl [H9]
  · iexists _; isplitr; swap; · iexact H9
    ipureintro
    rw [View.read_writes_cons_put arg9.view f9 _ _ [] h3]; refine put_congr hf9 ?_
    unfold run_B.sl.r_2 run_B.sl.H10_1
    refine new9_eq i ((View.readAt_full arg5.view f5 inb_S2048x512_S2048x512_0_0).trans hf5) (readAt_one arg3 f3 x1 hf3 (Shape.Idx.first (numel1_S1.symm ▸ Nat.one_pos))) ?_ ((View.readAt_unit arg9.view f9 (k1_off3_inb i hc2) h3 inn).trans (window_congr inn hf9))
    refine (View.readAt_unit arg10.view _ (k1_off2_inb i hc2) h2 inq).trans ((window_congr inq (View.read_writes_cons_put arg10.view f10 (k1_off1_inb i hc1) _ [] h1)).trans ?_)
    refine (VecWindow.window_put_of_disjoint _ _ _ _ _ inq _ 0 ?_).trans (window_congr inq hf10)
    show q + 1 ≤ p ∨ p + 1 ≤ q
    omega
  iexists _; isplitr; swap; · iexact H10
  ipureintro
  exact (View.read_writes_cons_put arg10.view f10 _ _ [] h1).trans (put_congr hf10 (congrArg₂ k1_pay2 ((View.readAt_full arg4.view f4 inb_S2048x128_S2048x128_0_0).trans hf4) (readAt_one arg2 f2 x0 hf2 (Shape.Idx.first (numel1_S1.symm ▸ Nat.one_pos)))))

set_option maxHeartbeats 1000000 in
/-- The last grid row: the last multiplication, then the accumulator's block is scaled and stored as a block of dW. -/
theorem run_C (c : Dev nD) (i : grid1.Coords) (arg2 : Memref sig .tc .smem S1 .f32) (harg2 : arg2.IsWhole) (arg3 : Memref sig .tc .smem S1 .f32) (harg3 : arg3.IsWhole) (arg4 : Memref sig .tc .vmem S2048x128 .bf16) (harg4 : arg4.IsWhole) (arg5 : Memref sig .tc .vmem S2048x512 .bf16) (harg5 : arg5.IsWhole) (arg6 : Memref sig .tc .vmem S1280x512 .f32) (harg6 : arg6.IsWhole) (arg7 : Memref sig .tc .vmem S128x2048 .fp8e4m3) (harg7 : arg7.IsWhole) (arg8 : Memref sig .tc .vmem S512x2048 .fp8e5m2) (harg8 : arg8.IsWhole) (arg9 : Memref sig .tc .vmem S10x1280x512 .f32) (harg9 : arg9.IsWhole) (arg10 : Memref sig .tc .vmem S2x1280x2048 .fp8e4m3) (harg10 : arg10.IsWhole)
    (hc1 : ¬ k1_cond1 i = 1#1) (hc2 : k1_cond2 i = 1#1) (hc3 : k1_cond3 i = 1#1)
    (p q n : ℕ) (hpq : p + q = 1) (h1 : k1_off1 i = ![p, 128 * n, 0]) (h2 : k1_off2 i = ![q, 0, 0]) (h3 : k1_off3 i = ![n, 0, 0]) (h4 : k1_off4 i = ![n, 0, 0])
    (inq : ∀ a, (![q, 0, 0] : Fin 3 → ℕ) a + S1x1280x2048.size a ≤ S2x1280x2048.size a) (inn : ∀ a, (![n, 0, 0] : Fin 3 → ℕ) a + S1x1280x512.size a ≤ S10x1280x512.size a)
    (x0 x1 : Vec F S1 .f32) (x2 : Vec F S2048x128 .bf16) (x3 : Vec F S2048x512 .bf16) (a9 : Vec F S10x1280x512 .f32) (a10 : Vec F S2x1280x2048 .fp8e4m3)
    (E : Set ℕ) (K : PUnit → sProp 𝕄) :
    iprop(owns (c : Thread nD τ) arg2 fullShare x0 ∗ owns (c : Thread nD τ) arg3 fullShare x1 ∗ owns (c : Thread nD τ) arg5 fullShare x3 ∗ (∃ d, owns (c : Thread nD τ) arg6 fullShare d) ∗ (∃ d, owns (c : Thread nD τ) arg8 fullShare d) ∗ owns (c : Thread nD τ) arg9 fullShare a9 ∗ owns (c : Thread nD τ) arg10 fullShare a10
        ∗ (iprop(owns (c : Thread nD τ) arg2 fullShare x0 ∗ owns (c : Thread nD τ) arg3 fullShare x1 ∗ owns (c : Thread nD τ) arg5 fullShare x3 ∗ owns (c : Thread nD τ) arg6 fullShare (k1_pay4 (new9 i x1 x3 a9 a10 q n inq inn) (sc x0) (sc x1)) ∗ owns (c : Thread nD τ) arg8 fullShare (k1_pay7 x3 (sc x1)) ∗ owns (c : Thread nD τ) arg9 fullShare (put9 i x1 x3 a9 a10 q n inq inn) ∗ owns (c : Thread nD τ) arg10 fullShare a10) -∗ K ⟨⟩))
      ⊢ wp frame (wpE (defs₀ (F := F)) Variants.none c none) E (cc1_wgrad i arg2 harg2 arg3 harg3 arg4 harg4 arg5 harg5 arg6 harg6 arg7 harg7 arg8 harg8 arg9 harg9 arg10 harg10) K := by
  simp only [cc1_wgrad_eq_skeleton]; unfold cc1_wgrad_skel
  simp only [k1_part1_eq_skeleton]
  unfold owns
  iintro ⟨⟨%f2, %hf2, H2⟩, ⟨%f3, %hf3, H3⟩, ⟨%f5, %hf5, H5⟩, ⟨%d6, %f6, -, H6⟩, ⟨%d8, %f8, -, H8⟩, ⟨%f9, %hf9, H9⟩, ⟨%f10, %hf10, H10⟩, Hk⟩
  letI : ClosedOff (k1_off1 i) := ⟨![p, 128 * n, 0], h1⟩
  letI : ClosedOff (k1_off2 i) := ⟨![q, 0, 0], h2⟩
  letI : ClosedOff (k1_off3 i) := ⟨![n, 0, 0], h3⟩
  letI : ClosedOff (k1_off4 i) := ⟨![n, 0, 0], h4⟩
  sl_exec (disch := first | sl_exact hc1 | sl_exact hc2 | sl_exact hc3)
  sl_step
  iapply Hk
  isplitl [H2]
  · iexists _; isplitr; swap; · iexact H2
    ipureintro; exact hf2
  isplitl [H3]
  · iexists _; isplitr; swap; · iexact H3
    ipureintro; exact hf3
  isplitl [H5]
  · iexists _; isplitr; swap; · iexact H5
    ipureintro; exact hf5
  isplitl [H6]
  · iexists _; isplitr; swap; · iexact H6
    ipureintro
    rw [View.read_writes_full]; unfold run_C.sl.v58 run_C.sl.H9_1
    exact pay4_congr ((readCov_same arg9.view (k1_off4_inb i hc2 hc3) (k1_off3_inb i hc2) inn h4 h3 _).trans (new9_eq i ((View.readAt_full arg5.view f5 inb_S2048x512_S2048x512_0_0).trans hf5) (readAt_one arg3 f3 x1 hf3 (Shape.Idx.first (numel1_S1.symm ▸ Nat.one_pos))) ((View.readAt_unit arg10.view f10 (k1_off2_inb i hc2) h2 inq).trans (window_congr inq hf10)) ((View.readAt_unit arg9.view f9 (k1_off3_inb i hc2) h3 inn).trans (window_congr inn hf9)))) (readAt_one arg2 f2 x0 hf2 (Shape.Idx.first (numel1_S1.symm ▸ Nat.one_pos))) (readAt_one arg3 f3 x1 hf3 (Shape.Idx.first (numel1_S1.symm ▸ Nat.one_pos)))
  isplitl [H8]
  · iexists _; isplitr; swap; · iexact H8
    ipureintro
    exact (View.read_writes_full _ _ _ _ _).trans (congrArg₂ k1_pay7 ((View.readAt_full arg5.view f5 inb_S2048x512_S2048x512_0_0).trans hf5) (readAt_one arg3 f3 x1 hf3 (Shape.Idx.first (numel1_S1.symm ▸ Nat.one_pos))))
  isplitl [H9]
  · iexists _; isplitr; swap; · iexact H9
    ipureintro
    exact (View.read_writes_cons_put arg9.view f9 _ _ [] h3).trans (put_congr hf9 (new9_eq i ((View.readAt_full arg5.view f5 inb_S2048x512_S2048x512_0_0).trans hf5) (readAt_one arg3 f3 x1 hf3 (Shape.Idx.first (numel1_S1.symm ▸ Nat.one_pos))) ((View.readAt_unit arg10.view f10 (k1_off2_inb i hc2) h2 inq).trans (window_congr inq hf10)) ((View.readAt_unit arg9.view f9 (k1_off3_inb i hc2) h3 inn).trans (window_congr inn hf9))))
  iexists _; isplitr; swap; · iexact H10
  ipureintro; exact hf10

end Cert.KernelIdeal.Product

end
-- ==== Proof.ProductTrackIdeal.lean ====
/- The whole run of the product kernel, point by point: what each staging buffer and each scratch buffer holds, and the frame. -/
module

public import proofs.«01_k».proof.Proof.ProductRunsIdeal

@[expose] public section

set_option maxRecDepth 16384

noncomputable section

namespace Cert.KernelIdeal.Product

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The schedule, decided over the 130 points -/

/-- x is quantised at the first 120 points (the first twelve grid rows). -/
theorem cond1_iff : ∀ t : Fin grid1.N, k1_cond1 (grid1.coords t) = 1#1 ↔ t.val < 120 := by decide +kernel
/-- The multiplication runs from the second grid row on. -/
theorem cond2_iff : ∀ t : Fin grid1.N, k1_cond2 (grid1.coords t) = 1#1 ↔ 10 ≤ t.val := by decide +kernel
/-- dW is stored in the last grid row. -/
theorem cond3_iff : ∀ t : Fin grid1.N, k1_cond3 (grid1.coords t) = 1#1 ↔ 120 ≤ t.val := by decide +kernel
/-- The accumulator is started afresh in the second grid row; -/
theorem startW_one : ∀ t : Fin grid1.N, t.val / 10 = 1 → startW (grid1.coords t) = 1#1 := by decide +kernel
/-- and continued in the later ones. -/
theorem startW_zero : ∀ t : Fin grid1.N, 20 ≤ t.val → startW (grid1.coords t) = 0#1 := by decide +kernel
/-- Where the quantised block of x goes in the two slabs. -/
theorem off1_eq : ∀ t : Fin grid1.N, k1_off1 (grid1.coords t) = ![t.val / 10 % 2, 128 * (t.val % 10), 0] := by decide +kernel
/-- The slab that is multiplied. -/
theorem off2_eq : ∀ t : Fin grid1.N, k1_off2 (grid1.coords t) = ![(t.val / 10 + 1) % 2, 0, 0] := by decide +kernel
/-- The accumulator's block. -/
theorem off3_eq : ∀ t : Fin grid1.N, k1_off3 (grid1.coords t) = ![t.val % 10, 0, 0] := by decide +kernel
theorem off4_eq : ∀ t : Fin grid1.N, k1_off4 (grid1.coords t) = ![t.val % 10, 0, 0] := by decide +kernel

/-- The results' write-backs. -/
theorem flush4 : ∀ t : Fin grid1.N, win1_4.flush t = true ↔ 120 ≤ t.val := by decide +kernel
theorem flush5 : ∀ t : Fin grid1.N, win1_5.flush t = true ↔ (t.val < 119 ∨ t.val = 129) := by decide +kernel
theorem flush6 : ∀ t : Fin grid1.N, win1_6.flush t = true ↔ 10 ≤ t.val := by decide +kernel

/-- The points at which the body leaves a result's buffer alone. -/
theorem idle4 : ∀ t : Fin grid1.N, idle1 4 (grid1.coords t) = decide (t.val < 120) := by decide +kernel
theorem idle5 : ∀ t : Fin grid1.N, idle1 5 (grid1.coords t) = decide (120 ≤ t.val) := by decide +kernel
theorem idle6 : ∀ t : Fin grid1.N, idle1 6 (grid1.coords t) = decide (t.val < 10) := by decide +kernel

theorem lt_N (t : Fin cfg1.N) : t.val < 130 := lt_of_lt_of_eq t.isLt N_1

/-- The point numbered `n` (below 130). -/
abbrev pt (n : ℕ) : Fin cfg1.N := ⟨n % 130, lt_of_lt_of_eq (Nat.mod_lt _ (by decide)) N_1.symm⟩
theorem pt_self (t : Fin cfg1.N) : pt t.val = t := Fin.ext (Nat.mod_eq_of_lt (lt_N t))

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The values -/

/-- The staged inputs at a point: the two scales, the block of x, the block of dy. -/
abbrev xs (c : Dev nD) (t : Fin cfg1.N) : Elt F .f32 := sc (F := F) (iblk V c 0 t)
abbrev ds (c : Dev nD) (t : Fin cfg1.N) : Elt F .f32 := sc (F := F) (iblk V c 1 t)
abbrev xb (c : Dev nD) (t : Fin cfg1.N) : Vec F S2048x128 .bf16 := iblk V c 2 t
abbrev db (c : Dev nD) (t : Fin cfg1.N) : Vec F S2048x512 .bf16 := iblk V c 3 t

/-- The slab grid row `s` fills: row `r` of it comes from the point that quantises columns `128 (r / 128)` on of x. -/
def slab (c : Dev nD) (s : ℕ) : Vec F S1x1280x2048 .fp8e4m3 := fun y =>
  k1_pay2 (xb V c (pt (10 * s + (y 1).val / 128))) (xs V c (pt (10 * s + (y 1).val / 128)))
    (fun | 0 => ⟨0, Nat.one_pos⟩ | 1 => ⟨(y 1).val % 128, Nat.mod_lt _ (by decide)⟩ | 2 => y 2)

/-- The product of the point of grid row `k + 1` and column `n`: the slab row `k` filled, times the block of dy. -/
def prod (c : Dev nD) (n k : ℕ) : Vec F S1x1280x512 .f32 :=
  k1_pay3 (k1_pay8 (db V c (pt (10 * (k + 1) + n))) (ds V c (pt (10 * (k + 1) + n))) (slab V c k)) 1#1
    (fun y => k1_pay8 (db V c (pt (10 * (k + 1) + n))) (ds V c (pt (10 * (k + 1) + n))) (slab V c k) (fun | 0 => y 1 | 1 => y 2))

/-- The accumulator's block `n` after grid row `k + 1`. -/
def acc (c : Dev nD) (n : ℕ) : ℕ → Vec F S1x1280x512 .f32
  | 0 => prod V c n 0
  | k + 1 => k1_pay3 (k1_pay8 (db V c (pt (10 * (k + 2) + n))) (ds V c (pt (10 * (k + 2) + n))) (slab V c (k + 1))) 0#1 (acc c n k)

/-- Starting afresh reads nothing of what the accumulator held. -/
theorem pay3_start (v43 : FVec F S1280x512 .f32) (v46 v46' : FVec F S1x1280x512 .f32) : k1_pay3 v43 1#1 v46 = k1_pay3 v43 1#1 v46' := rfl

/-- What the body leaves in the three results' buffers. -/
def xq (c : Dev nD) (t : Fin cfg1.N) : Vec F S128x2048 .fp8e4m3 := k1_pay1 (xb V c t) (xs V c t)
def dq (c : Dev nD) (t : Fin cfg1.N) : Vec F S512x2048 .fp8e5m2 := k1_pay7 (db V c t) (ds V c t)
def dw (c : Dev nD) (t : Fin cfg1.N) : Vec F S1280x512 .f32 := k1_pay4 (acc V c (t.val % 10) 11) (xs V c t) (ds V c t)

/-! ## The scratch between points -/

/-- Before point `t` the two slabs hold every block quantised in this grid row and the one before. -/
def Inv10 (c : Dev nD) (t : ℕ) (a10 : Vec F S2x1280x2048 .fp8e4m3) : Prop :=
  ∀ u, u < t → u < 120 → t < 10 * (u / 10) + 20 → ∀ inb,
    VecWindow.window a10 ![u / 10 % 2, 128 * (u % 10), 0] S1x128x2048.size inb = k1_pay2 (xb V c (pt u)) (xs V c (pt u))

/-- Before point `t` the accumulator holds each of its blocks as last written. -/
def Inv9 (c : Dev nD) (t : ℕ) (a9 : Vec F S10x1280x512 .f32) : Prop :=
  ∀ u, 10 ≤ u → u < t → t ≤ u + 10 → ∀ inb,
    VecWindow.window a9 ![u % 10, 0, 0] S1x1280x512.size inb = acc V c (u % 10) (u / 10 - 1)

/-- Storing the block of point `t` keeps the slabs' invariant. -/
theorem Inv10_put (c : Dev nD) (t : Fin cfg1.N) (ht : t.val < 120) (a10 : Vec F S2x1280x2048 .fp8e4m3) (h : Inv10 V c t.val a10) :
    Inv10 V c (t.val + 1) (put10 (iblk V c 0 t) (iblk V c 2 t) a10 (t.val / 10 % 2) (t.val % 10)) := by
  intro u hu hu' hw inb
  by_cases hut : u = t.val
  · subst hut
    rw [pt_self]
    exact VecWindow.window_put_same _ _ _ inb _
  · have h0 := h u (by omega) hu' (by omega) inb
    rw [← h0]
    by_cases hrow : u / 10 = t.val / 10
    · refine VecWindow.window_put_of_disjoint _ _ _ _ _ inb _ 1 ?_
      show 128 * (u % 10) + 128 ≤ 128 * (t.val % 10) ∨ 128 * (t.val % 10) + 128 ≤ 128 * (u % 10)
      omega
    · refine VecWindow.window_put_of_disjoint _ _ _ _ _ inb _ 0 ?_
      show u / 10 % 2 + 1 ≤ t.val / 10 % 2 ∨ t.val / 10 % 2 + 1 ≤ u / 10 % 2
      omega

/-- In the last grid row nothing is stored in the slabs. -/
theorem Inv10_keep (c : Dev nD) (t : ℕ) (ht : 120 ≤ t) (a10 : Vec F S2x1280x2048 .fp8e4m3) (h : Inv10 V c t a10) : Inv10 V c (t + 1) a10 :=
  fun u hu hu' hw inb => h u (by omega) hu' (by omega) inb

/-- From the second grid row on the slab the row before filled is there whole. -/
theorem slab_of_inv (c : Dev nD) (t : ℕ) (ht : 10 ≤ t) (ht' : t < 130) (a10 : Vec F S2x1280x2048 .fp8e4m3) (h : Inv10 V c t a10)
    (inq : ∀ a, (![(t / 10 + 1) % 2, 0, 0] : Fin 3 → ℕ) a + S1x1280x2048.size a ≤ S2x1280x2048.size a) :
    VecWindow.window a10 ![(t / 10 + 1) % 2, 0, 0] S1x1280x2048.size inq = slab V c (t / 10 - 1) := by
  funext y
  have hy : (y 1).val < 1280 := (y 1).isLt
  have hy0 : (y 0).val < 1 := (y 0).isLt
  have h0 := h (10 * (t / 10 - 1) + (y 1).val / 128) (by omega) (by omega) (by omega) (by
    intro a; fin_cases a
    · show (10 * (t / 10 - 1) + (y 1).val / 128) / 10 % 2 + 1 ≤ 2; omega
    · show 128 * ((10 * (t / 10 - 1) + (y 1).val / 128) % 10) + 128 ≤ 1280; omega
    · show 0 + 2048 ≤ 2048; omega)
  unfold slab
  rw [← h0]
  unfold VecWindow.window
  refine congrArg a10 (funext fun a => Fin.ext ?_)
  fin_cases a
  · show (t / 10 + 1) % 2 + 1 * (y 0).val = (10 * (t / 10 - 1) + (y 1).val / 128) / 10 % 2 + 1 * 0; omega
  · show 0 + 1 * (y 1).val = 128 * ((10 * (t / 10 - 1) + (y 1).val / 128) % 10) + 1 * ((y 1).val % 128); omega
  · rfl

/-- What a point of the second grid row or later leaves in its block of the accumulator. -/
theorem new9_of_inv (c : Dev nD) (t : Fin cfg1.N) (ht : 10 ≤ t.val) (a9 : Vec F S10x1280x512 .f32) (a10 : Vec F S2x1280x2048 .fp8e4m3)
    (h9 : Inv9 V c t.val a9) (h10 : Inv10 V c t.val a10) (inq) (inn) :
    new9 (grid1.coords t) (iblk V c 1 t) (iblk V c 3 t) a9 a10 ((t.val / 10 + 1) % 2) (t.val % 10) inq inn = acc V c (t.val % 10) (t.val / 10 - 1) := by
  have hN := lt_N t
  unfold new9
  rw [slab_of_inv V c t.val ht hN a10 h10 inq]
  by_cases h1 : t.val / 10 = 1
  · rw [startW_one t h1, show t.val / 10 - 1 = 0 by omega]
    unfold acc prod
    rw [show 10 * (0 + 1) + t.val % 10 = t.val by omega, pt_self]
    exact pay3_start _ _ _
  · obtain ⟨k, hk⟩ : ∃ k, t.val / 10 = k + 2 := ⟨t.val / 10 - 2, by omega⟩
    have hp : ∀ n', (t.val - 10) % 10 = n' → ∀ inn', VecWindow.window a9 ![n', 0, 0] S1x1280x512.size inn' = acc V c n' k := by
      intro n' hn' inn'
      subst hn'
      have := h9 (t.val - 10) (by omega) (by omega) (by omega) inn'
      rwa [show (t.val - 10) / 10 - 1 = k by omega] at this
    have hp' := hp (t.val % 10) (by omega) inn
    rw [startW_zero t (by omega), show t.val / 10 - 1 = k + 1 by omega, hp']
    show _ = k1_pay3 _ _ _
    rw [show 10 * (k + 2) + t.val % 10 = t.val by omega, pt_self]

/-- Storing the block keeps the accumulator's invariant. -/
theorem Inv9_put (c : Dev nD) (t : Fin cfg1.N) (ht : 10 ≤ t.val) (a9 : Vec F S10x1280x512 .f32) (a10 : Vec F S2x1280x2048 .fp8e4m3)
    (h9 : Inv9 V c t.val a9) (h10 : Inv10 V c t.val a10) (inq) (inn) :
    Inv9 V c (t.val + 1) (put9 (grid1.coords t) (iblk V c 1 t) (iblk V c 3 t) a9 a10 ((t.val / 10 + 1) % 2) (t.val % 10) inq inn) := by
  intro u hu hu' hw inb
  unfold put9
  rw [new9_of_inv V c t ht a9 a10 h9 h10 inq inn]
  by_cases hut : u = t.val
  · subst hut
    exact VecWindow.window_put_same _ _ _ inb _
  · have h0 := h9 u hu (by omega) (by omega) inb
    rw [← h0]
    refine VecWindow.window_put_of_disjoint _ _ _ _ _ inb _ 0 ?_
    show u % 10 + 1 ≤ t.val % 10 ∨ t.val % 10 + 1 ≤ u % 10
    omega

end Cert.KernelIdeal.Product

end
-- ==== Proof.ProductFrameIdeal.lean ====
/- The proof data of the product kernel's pipeline, its body obligation, . -/
module

public import proofs.«01_k».proof.Proof.ProductTrackIdeal
public import Idealize.ShloMosaic.Lib.Claim

@[expose] public section

set_option maxRecDepth 16384

noncomputable section

namespace Cert.KernelIdeal.Product

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operands: the accumulator and the two slabs. -/
abbrev scM1_0 : Memref sig .tc .vmem S10x1280x512 .f32 := Memref.whole cc1_scratch0
abbrev scM1_1 : Memref sig .tc .vmem S2x1280x2048 .fp8e4m3 := Memref.whole cc1_scratch1

/-- A scoped buffer of the other call, whole at some contents. -/
abbrev anyAt (c : Dev nD) (b : Ref sig .tc) : sProp 𝕄 := iprop(∃ f : Buf (Elt F) ((c : Thread nD τ).loc b), ((c : Thread nD τ).loc b) ↦{fullShare} f)

/-- The scoped buffers that ride along: those of the other call. -/
abbrev Rest (c : Dev nD) : sProp 𝕄 := iprop(anyAt c cc0_stg0_0 ∗ anyAt c cc0_stg0_1 ∗ anyAt c cc0_stg1_0 ∗ anyAt c cc0_stg1_1 ∗ anyAt c cc0_scratch0 ∗ anyAt c cc0_scratch1 ∗ anyAt c cc0_stg2_0 ∗ anyAt c cc0_stg3_0)

/-- What the launch hands the region, with the scratch as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ Rest c) ∗ (∃ r, prngReg c r)) := by
  unfold Pipeline.ΦA
  rw [Pipeline.scopedRest_eq_of_list spec1 c [cc1_scratch0, cc1_scratch1, cc0_stg0_0, cc0_stg0_1, cc0_stg1_0, cc0_stg1_1, cc0_scratch0, cc0_scratch1, cc0_stg2_0, cc0_stg3_0] (by decide) (by decide)]
  simp only [scM1_0, scM1_1, owns_whole]; try rfl

/-- The region's invariant before point `n`: the scratch as `Inv9` and `Inv10` say, the generator register at some state. -/
def PhiS (c : Dev nD) (n : ℕ) (_ : n ≤ cfg1.N) : sProp 𝕄 :=
  iprop(∃ a9, ∃ a10, ⌜Inv9 V c n a9 ∧ Inv10 V c n a10⌝ ∗ owns (c : Thread nD τ) scM1_0 fullShare a9 ∗ owns (c : Thread nD τ) scM1_1 fullShare a10 ∗ Rest c ∗ (∃ r, prngReg c r))

/-- The proof data: the arrays as the region finds them; after the body each input's buffer at its block, each result's at
    what was last stored there. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => dw V c t
    | ⟨5, _⟩ => xq V c (pt (min t.val 119))
    | ⟨6, _⟩ => dq V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = dw V c t := by dsimp only [dat]
theorem after1_5 (c : Dev nD) (t : Fin cfg1.N) : (dat V c).after 5 t = xq V c (pt (min t.val 119)) := by dsimp only [dat]
theorem after1_6 (c : Dev nD) (t : Fin cfg1.N) : (dat V c).after 6 t = dq V c t := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d

/-- Through the last grid row the buffer of x's codes holds what point 119 left in it. -/
theorem before1_5 (c : Dev nD) : ∀ (n : ℕ) (t : Fin cfg1.N), t.val = 120 + n → ∀ d, (dat V c).before 5 t d = xq V c (pt 119)
  | 0, t, h, d => by
    have hf : (cfg1.win 5).flush ⟨t.val - 1, Nat.lt_of_le_of_lt (Nat.sub_le _ _) t.isLt⟩ = false :=
      Bool.eq_false_iff.mpr fun h' => by
        have := (flush5 _).mp h'; simp only at this; omega
    have hi : cfg1.idle 5 (cfg1.grid.coords ⟨t.val - 1, Nat.lt_of_le_of_lt (Nat.sub_le _ _) t.isLt⟩) = false :=
      (idle5 _).trans (decide_eq_false (by simp only; omega))
    rw [(dat V c).before_of_pos 5 t (by omega) ((cfg1.win 5).fetch_out rfl t), hf, if_neg Bool.false_ne_true]
    unfold Dat.left; rw [hi]; dsimp only; unfold Dat.kept
    rw [Pipeline.fill_of_clip_none 5 _ (fun _ => rfl) d ((dat V c).after 5 _), Window.fill_cut, after1_5]
    congr 2; simp only; omega
  | n + 1, t, h, d => by
    have hN := lt_N t
    have hf : (cfg1.win 5).flush ⟨t.val - 1, Nat.lt_of_le_of_lt (Nat.sub_le _ _) t.isLt⟩ = false :=
      Bool.eq_false_iff.mpr fun h' => by
        have := (flush5 _).mp h'; simp only at this; omega
    have hi : cfg1.idle 5 (cfg1.grid.coords ⟨t.val - 1, Nat.lt_of_le_of_lt (Nat.sub_le _ _) t.isLt⟩) = true :=
      (idle5 _).trans (decide_eq_true (by simp only; omega))
    rw [(dat V c).before_of_pos 5 t (by omega) ((cfg1.win 5).fetch_out rfl t), hf, if_neg Bool.false_ne_true]
    unfold Dat.left; rw [hi]; dsimp only
    exact before1_5 c n ⟨t.val - 1, _⟩ (by simp only; omega) d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

/-- An input's buffer is left at its block. -/
theorem leaves0 (c : Dev nD) (t : Fin cfg1.N) : (dat V c).leavesExact 0 t = owns (c : Thread nD τ) (st1_0 t) fullShare (iblk V c 0 t) := by
  unfold Dat.leavesExact; rw [show cfg1.idle 0 (cfg1.grid.coords t) = false from rfl]; dsimp only; rw [after1_0]
theorem leaves1 (c : Dev nD) (t : Fin cfg1.N) : (dat V c).leavesExact 1 t = owns (c : Thread nD τ) (st1_1 t) fullShare (iblk V c 1 t) := by
  unfold Dat.leavesExact; rw [show cfg1.idle 1 (cfg1.grid.coords t) = false from rfl]; dsimp only; rw [after1_1]
theorem leaves2 (c : Dev nD) (t : Fin cfg1.N) : (dat V c).leavesExact 2 t = owns (c : Thread nD τ) (st1_2 t) fullShare (iblk V c 2 t) := by
  unfold Dat.leavesExact; rw [show cfg1.idle 2 (cfg1.grid.coords t) = false from rfl]; dsimp only; rw [after1_2]
theorem leaves3 (c : Dev nD) (t : Fin cfg1.N) : (dat V c).leavesExact 3 t = owns (c : Thread nD τ) (st1_3 t) fullShare (iblk V c 3 t) := by
  unfold Dat.leavesExact; rw [show cfg1.idle 3 (cfg1.grid.coords t) = false from rfl]; dsimp only; rw [after1_3]

/-- A result's buffer where the body stores it. -/
theorem leaves4_live (c : Dev nD) (t : Fin cfg1.N) (h : 120 ≤ t.val) : (dat V c).leavesExact 4 t = owns (c : Thread nD τ) (st1_4 t) fullShare (dw V c t) := by
  unfold Dat.leavesExact
  rw [show cfg1.idle 4 (cfg1.grid.coords t) = false from (idle4 t).trans (decide_eq_false (by omega))]; dsimp only; rw [after1_4]
theorem leaves5_live (c : Dev nD) (t : Fin cfg1.N) (h : t.val < 120) : (dat V c).leavesExact 5 t = owns (c : Thread nD τ) (st1_5 t) fullShare (xq V c t) := by
  unfold Dat.leavesExact
  rw [show cfg1.idle 5 (cfg1.grid.coords t) = false from (idle5 t).trans (decide_eq_false (by omega))]; dsimp only; rw [after1_5, show min t.val 119 = t.val by omega, pt_self]
theorem leaves6_live (c : Dev nD) (t : Fin cfg1.N) (h : 10 ≤ t.val) : (dat V c).leavesExact 6 t = owns (c : Thread nD τ) (st1_6 t) fullShare (dq V c t) := by
  unfold Dat.leavesExact
  rw [show cfg1.idle 6 (cfg1.grid.coords t) = false from (idle6 t).trans (decide_eq_false (by omega))]; dsimp only; rw [after1_6]

/-- A result's buffer where the body leaves it alone. -/
theorem leaves4_idle (c : Dev nD) (t : Fin cfg1.N) (h : t.val < 120) :
    (dat V c).leavesExact 4 t = iprop(∃ d, owns (c : Thread nD τ) (st1_4 t) fullShare ((dat V c).before 4 t d)) :=
  (dat V c).leavesExact_idle 4 t ((idle4 t).trans (decide_eq_true h)) (Bool.eq_false_iff.mpr fun h' => absurd ((flush4 t).mp h') (by omega))
theorem leaves6_idle (c : Dev nD) (t : Fin cfg1.N) (h : t.val < 10) :
    (dat V c).leavesExact 6 t = iprop(∃ d, owns (c : Thread nD τ) (st1_6 t) fullShare ((dat V c).before 6 t d)) :=
  (dat V c).leavesExact_idle 6 t ((idle6 t).trans (decide_eq_true h)) (Bool.eq_false_iff.mpr fun h' => absurd ((flush6 t).mp h') (by omega))

/-- In the last grid row the buffer of x's codes is left as found, which at its write-back is what point 119 stored. -/
theorem leaves5_last (c : Dev nD) (t : Fin cfg1.N) (h : 120 ≤ t.val) :
    iprop(∃ d, owns (c : Thread nD τ) (st1_5 t) fullShare ((dat V c).before 5 t d)) ⊢ (dat V c).leavesExact 5 t := by
  have hN := lt_N t
  have hi : cfg1.idle 5 (cfg1.grid.coords t) = true := (idle5 t).trans (decide_eq_true h)
  by_cases hl : t.val = 129
  · have hf : (cfg1.win 5).flush t = true := (flush5 t).mpr (.inr hl)
    unfold Dat.leavesExact
    rw [hi, hf]; dsimp only
    rw [after1_5, show min t.val 119 = 119 by omega]
    iintro ⟨%d, H⟩
    rw [before1_5 V c (t.val - 120) t (by omega) d]
    iexact H
  · have hf : (cfg1.win 5).flush t = false := Bool.eq_false_iff.mpr fun h' => by
      have := (flush5 t).mp h'; omega
    rw [(dat V c).leavesExact_idle 5 t hi hf]

theorem inq_of (t : Fin cfg1.N) : ∀ a, (![(t.val / 10 + 1) % 2, 0, 0] : Fin 3 → ℕ) a + S1x1280x2048.size a ≤ S2x1280x2048.size a := by
  intro a; fin_cases a
  · show (t.val / 10 + 1) % 2 + 1 ≤ 2; omega
  · show 0 + 1280 ≤ 1280; omega
  · show 0 + 2048 ≤ 2048; omega
theorem inn_of (t : Fin cfg1.N) : ∀ a, (![t.val % 10, 0, 0] : Fin 3 → ℕ) a + S1x1280x512.size a ≤ S10x1280x512.size a := by
  intro a; fin_cases a
  · show t.val % 10 + 1 ≤ 10; omega
  · show 0 + 1280 ≤ 1280; omega
  · show 0 + 512 ≤ 512; omega

set_option maxHeartbeats 4800000 in
/-- The body at any point: by its grid row one of the three cases, the scratch at the invariant before and after. -/
theorem sound_body (c : Dev nD) (t : Fin cfg1.N) :
    bodyPre V c t ⊢ wp frame (wpE (defs₀ (F := F)) Variants.none c none) Set.univ (bodyAt1 t) (fun _ => bodyPost V c t) := by
  have hN := lt_N t
  unfold bodyPre bodyPost bodyAt1
  simp only [before1_0, before1_1, before1_2, before1_3]
  rw [show (dat V c).owesAt () t.succ = (dat V c).owesAt () t.castSucc from rfl]
  rw [show (dat V c).Φ t.succ = PhiS V c (t.val + 1) t.isLt from rfl, PhiS_castSucc V c t]
  rw [leaves0, leaves1, leaves2, leaves3]
  unfold PhiS
  by_cases h1 : t.val < 120
  · by_cases h2 : 10 ≤ t.val
    · rw [leaves4_idle V c t h1, leaves5_live V c t h1, leaves6_live V c t h2]
      iintro ⟨⟨%a9, %a10, %hI, HS0, HS1, Hg⟩, Ho, ⟨%d0, H0⟩, ⟨%d1, H1⟩, ⟨%d2, H2⟩, ⟨%d3, H3⟩, H4, ⟨%d5, H5⟩, ⟨%d6, H6⟩⟩
      iapply (run_B c (grid1.coords t) _ _ _ _ _ _ _ _ _ _ _ _ _ _ _ _ _ _ ((cond1_iff t).mpr h1) ((cond2_iff t).mpr h2) (fun h => absurd ((cond3_iff t).mp h) (by omega))
        (t.val / 10 % 2) ((t.val / 10 + 1) % 2) (t.val % 10) (by omega) (off1_eq t) (off2_eq t) (off3_eq t) (off4_eq t) (inq_of t) (inn_of t)
        (iblk V c 0 t) (iblk V c 1 t) (iblk V c 2 t) (iblk V c 3 t) a9 a10 Set.univ _)
      isplitl [H0]; · iexact H0
      isplitl [H1]; · iexact H1
      isplitl [H2]; · iexact H2
      isplitl [H3]; · iexact H3
      isplitl [H5]; · iexists _; iexact H5
      isplitl [H6]; · iexists _; iexact H6
      isplitl [HS0]; · iexact HS0
      isplitl [HS1]; · iexact HS1
      iintro ⟨H0, H1, H2, H3, H5, H6, HS0, HS1⟩
      isplitl [HS0 HS1 Hg]
      · iexists _; iexists _
        isplitr; swap
        · isplitl [HS0]; · iexact HS0
          isplitl [HS1]; · iexact HS1
          iexact Hg
        ipureintro
        exact ⟨Inv9_put V c t h2 a9 a10 hI.1 hI.2 _ _, Inv10_put V c t h1 a10 hI.2⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves4_idle V c t h1, leaves5_live V c t h1, leaves6_idle V c t (by omega)]
      iintro ⟨⟨%a9, %a10, %hI, HS0, HS1, Hg⟩, Ho, ⟨%d0, H0⟩, ⟨%d1, H1⟩, ⟨%d2, H2⟩, ⟨%d3, H3⟩, H4, ⟨%d5, H5⟩, H6⟩
      iapply (run_A c (grid1.coords t) _ _ _ _ _ _ _ _ _ _ _ _ _ _ _ _ _ _ ((cond1_iff t).mpr h1) (fun h => absurd ((cond2_iff t).mp h) h2)
        (t.val / 10 % 2) ((t.val / 10 + 1) % 2) (t.val % 10) (by omega) (off1_eq t) (off2_eq t) (off3_eq t) (off4_eq t) (inq_of t) (inn_of t)
        (iblk V c 0 t) (iblk V c 1 t) (iblk V c 2 t) (iblk V c 3 t) a9 a10 Set.univ _)
      isplitl [H0]; · iexact H0
      isplitl [H2]; · iexact H2
      isplitl [H5]; · iexists _; iexact H5
      isplitl [HS1]; · iexact HS1
      iintro ⟨H0, H2, H5, HS1⟩
      isplitl [HS0 HS1 Hg]
      · iexists _; iexists _
        isplitr; swap
        · isplitl [HS0]; · iexact HS0
          isplitl [HS1]; · iexact HS1
          iexact Hg
        ipureintro
        exact ⟨fun u hu hu' => absurd hu' (by omega), Inv10_put V c t h1 a10 hI.2⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · rw [leaves4_live V c t (by omega), leaves6_live V c t (by omega)]
    iintro ⟨⟨%a9, %a10, %hI, HS0, HS1, Hg⟩, Ho, ⟨%d0, H0⟩, ⟨%d1, H1⟩, ⟨%d2, H2⟩, ⟨%d3, H3⟩, ⟨%d4, H4⟩, H5, ⟨%d6, H6⟩⟩
    iapply (run_C c (grid1.coords t) _ _ _ _ _ _ _ _ _ _ _ _ _ _ _ _ _ _ (fun h => absurd ((cond1_iff t).mp h) h1) ((cond2_iff t).mpr (by omega)) ((cond3_iff t).mpr (by omega))
      (t.val / 10 % 2) ((t.val / 10 + 1) % 2) (t.val % 10) (by omega) (off1_eq t) (off2_eq t) (off3_eq t) (off4_eq t) (inq_of t) (inn_of t)
      (iblk V c 0 t) (iblk V c 1 t) (iblk V c 2 t) (iblk V c 3 t) a9 a10 Set.univ _)
    isplitl [H0]; · iexact H0
    isplitl [H1]; · iexact H1
    isplitl [H3]; · iexact H3
    isplitl [H4]; · iexists _; iexact H4
    isplitl [H6]; · iexists _; iexact H6
    isplitl [HS0]; · iexact HS0
    isplitl [HS1]; · iexact HS1
    iintro ⟨H0, H1, H3, H4, H6, HS0, HS1⟩
    isplitl [HS0 HS1 Hg]
    · iexists _; iexists _
      isplitr; swap
      · isplitl [HS0]; · iexact HS0
        isplitl [HS1]; · iexact HS1
        iexact Hg
      ipureintro
      exact ⟨Inv9_put V c t (by omega) a9 a10 hI.1 hI.2 _ _, Inv10_keep V c t.val (by omega) a10 hI.2⟩
    isplitl [Ho]; · iexact Ho
    isplitl [H0]; · iexact H0
    isplitl [H1]; · iexact H1
    isplitl [H2]; · iexact H2
    isplitl [H3]; · iexact H3
    isplitl [H4]
    · rw [new9_of_inv V c t (by omega) a9 a10 hI.1 hI.2, show t.val / 10 - 1 = 11 by omega]
      iexact H4
    isplitl [H5]; · iapply (leaves5_last V c t (by omega)); iexact H5
    iexact H6

/-- The body table's row at point `t`'s slots is the body. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region is the invariant before the first point; -/
theorem hin (c : Dev nD) : Pipeline.ΦA spec1 c ⊢ (dat V c).Φ 0 := by
  rw [show (dat V c).Φ 0 = PhiS V c 0 (Nat.zero_le _) from rfl, PhiA1_eq]
  unfold PhiS
  iintro ⟨⟨⟨%a9, HS0⟩, ⟨%a10, HS1⟩, Hr⟩, Hg⟩
  iexists a9; iexists a10
  isplitr; swap
  · isplitl [HS0]; · iexact HS0
    isplitl [HS1]; · iexact HS1
    isplitl [Hr]; · iexact Hr
    iexact Hg
  ipureintro
  exact ⟨fun u _ h => absurd h (Nat.not_lt_zero _), fun u h => absurd h (Nat.not_lt_zero _)⟩

/-- after the last point the invariant gives it back. -/
theorem hout (c : Dev nD) : (dat V c).Φ (Fin.last cfg1.N) ⊢ Pipeline.ΦA spec1 c := by
  rw [show (dat V c).Φ (Fin.last cfg1.N) = PhiS V c cfg1.N le_rfl from rfl, PhiA1_eq]
  unfold PhiS
  iintro ⟨%a9, %a10, -, HS0, HS1, Hr, Hg⟩
  isplitl [HS0 HS1 Hr]
  · isplitl [HS0]
    · iexists _; iexact HS0
    isplitl [HS1]
    · iexists _; iexact HS1
    iexact Hr
  iexact Hg

end Cert.KernelIdeal.Product

end
-- ==== Proof.WholeIdeal.lean ====
/- The whole program from launch to return: its reshapes, the maximum kernel and the product kernel one after the other. -/
module

public import proofs.«01_k».proof.Proof.AmaxFrameIdeal
public import proofs.«01_k».proof.Proof.ProductFrameIdeal
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (Amax.dat (V1 m ρ) c).arrAt w cfg0.N
theorem W2_arr (c : Dev nD) (w : Fin cfg0.W) :
    W2 m ρ c (Proc.devRef .tc (Pipeline.arrRef spec0 w)) = (Amax.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `Amax.A_eq`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((Amax.dat (V1 m ρ) c).arrAt_in w (h w rfl) _).trans (Amax.A_eq (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (Amax.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (Product.dat (V2 m ρ) c).arrAt w cfg1.N
theorem W3_arr (c : Dev nD) (w : Fin cfg1.W) :
    W3 m ρ c (Proc.devRef .tc (Pipeline.arrRef spec1 w)) = (Product.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `Product.A_eq`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Product.dat (V2 m ρ) c).arrAt_in w (h w rfl) _).trans (Product.A_eq (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (Product.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Amax.dat (V1 m ρ) c
  | ⟨1, _⟩ => fun c => Product.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Amax.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (Amax.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Amax.hin (V1 m ρ) c)
    unfold Pipeline.ΦA
    iintro ⟨Hp, -, Hr⟩
    isplitl [Hr]; · iexact Hr
    iexact Hp
  hout c := by
    rw [Pipeline.ownSems0_none]
    refine (Amax.hout (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Product.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Product.A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Product.hin (V2 m ρ) c)
    unfold Pipeline.ΦA
    iintro ⟨Hp, -, Hr⟩
    isplitl [Hr]; · iexact Hr
    iexact Hp
  hout c := by
    rw [Pipeline.ownSems0_none]
    refine (Product.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution ends, nothing faulting, with every buffer that
    outlives the calls at the contents of the last boundary and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W3 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W3_main_arg0 m ρ c),
     (h.1 c _ (mem_uc main_arg1 (by decide))).trans (W3_main_arg1 m ρ c)⟩, h.2⟩) (run m ρ)

/-- The results: the three arrays the product kernel leaves, the two scales as the maximum kernel leaves them. -/
theorem results : θ_run defs (onTc (τ := τ) (main (F := F))) ⟨m, fun _ => 0, ρ⟩ (fun r => ∀ c : Dev nD,
      r.2.mem ((c.tc : Thread nD τ).loc main_v3_0) = (Product.dat (V2 m ρ) c).arrAt 4 cfg1.N
      ∧ r.2.mem ((c.tc : Thread nD τ).loc main_v3_1) = (Product.dat (V2 m ρ) c).arrAt 5 cfg1.N
      ∧ r.2.mem ((c.tc : Thread nD τ).loc main_v2_0) = (Amax.dat (V1 m ρ) c).arrAt 2 cfg0.N
      ∧ r.2.mem ((c.tc : Thread nD τ).loc main_v3_2) = (Product.dat (V2 m ρ) c).arrAt 6 cfg1.N
      ∧ r.2.mem ((c.tc : Thread nD τ).loc main_v2_1) = (Amax.dat (V1 m ρ) c).arrAt 3 cfg0.N) :=
  (θ_run defs _ _).mono (fun _ h c =>
    ⟨(h.1 c _ (mem_uc main_v3_0 (by decide))).trans (W3_arr m ρ c 4),
     (h.1 c _ (mem_uc main_v3_1 (by decide))).trans (W3_arr m ρ c 5),
     (h.1 c _ (mem_uc main_v2_0 (by decide))).trans ((W3_of m ρ c main_v2_0 (by decide +kernel)).trans (W2_arr m ρ c 2)),
     (h.1 c _ (mem_uc main_v3_2 (by decide))).trans (W3_arr m ρ c 6),
     (h.1 c _ (mem_uc main_v2_1 (by decide))).trans ((W3_of m ρ c main_v2_1 (by decide +kernel)).trans (W2_arr m ρ c 3))⟩) (run m ρ)

/-! ## What the product kernel finds: the scales as the maximum kernel leaves them, the operands as reshaped -/

theorem V2_xs (c : Dev nD) : V2 m ρ c main_v2_0 = (Amax.dat (V1 m ρ) c).arrAt 2 cfg0.N := W2_arr m ρ c 2
theorem V2_ds (c : Dev nD) : V2 m ρ c main_v2_1 = (Amax.dat (V1 m ρ) c).arrAt 3 cfg0.N := W2_arr m ρ c 3
theorem V2_x (c : Dev nD) : V2 m ρ c main_v0 = V1 m ρ c main_v0 := W2_of m ρ c main_v0 (by decide +kernel)
theorem V2_dy (c : Dev nD) : V2 m ρ c main_v1 = V1 m ρ c main_v1 := W2_of m ρ c main_v1 (by decide +kernel)

end Cert.KernelIdeal.Whole

end
-- ==== Proof.RefHost.lean ====
/- What the reference leaves in its five results over the extended reals. -/
module

public import proofs.«01_k».proof.Proof.Gen.ReferenceIdeal.Value
public import Idealize.ShloMosaic.Lib.Pipeline.ValueKit
public import Idealize.ShloMosaic.Lib.Pipeline.ReadBack
public import Idealize.ShloMosaic.Lib.StableHlo.RunClose

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scale of the scaled maximum `t`, in the host's operations. -/
def hostScale (t : FVec Ideal S_ .f32) : FVec Ideal S_ .f32 :=
  let e := addf (Host.floor (Host.divf (Host.log t) (Host.log (constant S_ .f32 0x40000000#32)))) (constant S_ .f32 0x3F800000#32)
  let e' := select (ori (cmpf .olt t (constant S_ .f32 0x00800000#32)) (cmpf .oeq t (constant S_ .f32 0x7F800000#32))) (constant S_ .f32 0x00000000#32) e
  select (cmpf .ogt e' (constant S_ .f32 0x42FE0000#32)) (constant S_ .f32 0x7F800000#32) (Host.powf (constant S_ .f32 0x40000000#32) e')

/-- The greatest magnitude of x times the reciprocal of the greatest code, and that of dy. -/
def hostMaxX (X : FVec Ideal S4x6144x1280 .bf16) : FVec Ideal S_ .f32 :=
  mulf (Host.reduce FloatOps.maximumf (Host.absf (extf .f32 X bitsLt_bf16_f32)) (constant S_ .f32 0xFF800000#32) reducesTo_S4x6144x1280_S_d0_1_2 h_S_) (constant S_ .f32 0x3B124925#32)
def hostMaxDy (X : FVec Ideal S4x6144x5120 .bf16) : FVec Ideal S_ .f32 :=
  mulf (Host.reduce FloatOps.maximumf (Host.absf (extf .f32 X bitsLt_bf16_f32)) (constant S_ .f32 0xFF800000#32) reducesTo_S4x6144x5120_S_d0_1_2 h_S_) (constant S_ .f32 0x37924925#32)

set_option maxHeartbeats 1000000 in
/-- The scale array of x as the region finds it. -/
theorem V_xs (c : Dev nD) (X : FVec Ideal S4x6144x1280 .bf16) (hX : m (c, Proc.tc.devRef main_arg0) = X) : V m c main_v16 = shapeCast S1 (hostScale (hostMaxX X)) shapeCasts_S_S1 := by
  show StableHlo.after _ _ _ = _
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rw [hX]
  unfold hostMaxX
  generalize mulf (Host.reduce FloatOps.maximumf (Host.absf (extf .f32 X bitsLt_bf16_f32)) (constant S_ .f32 0xFF800000#32) reducesTo_S4x6144x1280_S_d0_1_2 h_S_) (constant S_ .f32 0x3B124925#32) = A
  clear hX
  clear X
  simp -implicitDefEqProofs only [StableHlo.TRef.toBuf, StableHlo.TRef.ofBuf, cast_cast, cast_eq, id]
  unfold hostScale
  dsimp only
  generalize select _ _ _ = B
  rfl

set_option maxHeartbeats 1000000 in
/-- The scale array of dy as the region finds it. -/
theorem V_ds (c : Dev nD) (X : FVec Ideal S4x6144x5120 .bf16) (hX : m (c, Proc.tc.devRef main_arg1) = X) : V m c main_v33 = shapeCast S1 (hostScale (hostMaxDy X)) shapeCasts_S_S1 := by
  show StableHlo.after _ _ _ = _
  simp only [hostOps0, hostOps0_1, hostOps0_2, hostOps0_3, hostOps0_4, hostOps0_5, hostOps0_6, hostOps0_7, hostOps0_8, List.flatten_cons, List.flatten_nil, List.cons_append, List.nil_append, List.append_nil]
  after_results_simp
  rw [hX]
  unfold hostMaxDy
  generalize mulf (Host.reduce FloatOps.maximumf (Host.absf (extf .f32 X bitsLt_bf16_f32)) (constant S_ .f32 0xFF800000#32) reducesTo_S4x6144x5120_S_d0_1_2 h_S_) (constant S_ .f32 0x37924925#32) = A
  clear hX
  clear X
  simp -implicitDefEqProofs only [StableHlo.TRef.toBuf, StableHlo.TRef.ofBuf, cast_cast, cast_eq, id]
  unfold hostScale
  dsimp only
  generalize select _ _ _ = B
  rfl

end Cert.ReferenceIdeal.Hand

end
-- ==== Proof.RefValue.lean ====
/- What the reference leaves in its five results, element by element over the extended reals. -/
module

public import proofs.«01_k».proof.Proof.RefHost

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scale of x and of dy: the one element of each scale array. -/
def xsc (c : Dev nD) : Elt Ideal .f32 := V m c main_v16 (ix1 0)
def dsc (c : Dev nD) : Elt Ideal .f32 := V m c main_v33 (ix1 0)

/-- The grid has one point, so every window stands at its first block. -/
theorem index0 : ∀ (t : Fin cfg0.N) (a : Fin 1), win0_0.index t a = 0 := by decide +kernel
theorem index1 : ∀ (t : Fin cfg0.N) (a : Fin 1), win0_1.index t a = 0 := by decide +kernel
theorem index2 : ∀ (t : Fin cfg0.N) (a : Fin 3), win0_2.index t a = 0 := by decide +kernel
theorem index3 : ∀ (t : Fin cfg0.N) (a : Fin 3), win0_3.index t a = 0 := by decide +kernel
theorem index4 : ∀ (t : Fin cfg0.N) (a : Fin 2), win0_4.index t a = 0 := by decide +kernel
theorem index5 : ∀ (t : Fin cfg0.N) (a : Fin 2), win0_5.index t a = 0 := by decide +kernel
theorem index6 : ∀ (t : Fin cfg0.N) (a : Fin 2), win0_6.index t a = 0 := by decide +kernel

/-- An array of one element is constant. -/
theorem one_eq (v : S1.Idx → Elt Ideal .f32) : v = fun _ => v (ix1 0) := by
  funext i; exact congrArg v (by funext a; fin_cases a; exact Subsingleton.elim (α := Fin 1) _ _)

/-- Its block is the whole array. -/
theorem read0 (t : Fin cfg0.N) (A : S1.Idx → Elt Ideal .f32) : ((cfg0.win 0).blk t).view.read (Elt Ideal) A = A := by
  funext j; blk_ext! [index0 t]
theorem read1 (t : Fin cfg0.N) (A : S1.Idx → Elt Ideal .f32) : ((cfg0.win 1).blk t).view.read (Elt Ideal) A = A := by
  funext j; blk_ext! [index1 t]

theorem V_xsc (c : Dev nD) : V m c main_v16 = fun _ => xsc m c := one_eq _
theorem V_dsc (c : Dev nD) : V m c main_v33 = fun _ => dsc m c := one_eq _

theorem blk0 (c : Dev nD) (t : Fin cfg0.N) : iblk m c 0 t = fun _ => xsc m c := by
  unfold iblk
  exact (read0 t _).trans (V_xsc m c)
theorem blk1 (c : Dev nD) (t : Fin cfg0.N) : iblk m c 1 t = fun _ => dsc m c := by
  unfold iblk
  exact (read1 t _).trans (V_dsc m c)
theorem blk2 (c : Dev nD) (t : Fin cfg0.N) : iblk m c 2 t = m ((c : Thread nD τ).loc main_arg0) := by
  funext j; blk_ext! [iblk, V_main_arg0, index2 t]
theorem blk3 (c : Dev nD) (t : Fin cfg0.N) : iblk m c 3 t = m ((c : Thread nD τ).loc main_arg1) := by
  funext j; blk_ext! [iblk, V_main_arg1, index3 t]

theorem first_eq (h) : Shape.Idx.first (s := S1) h = ix1 0 := by
  funext i; fin_cases i; exact Subsingleton.elim (α := Fin 1) _ _

/-- The one grid point leaves the payload of the whole arrays in result 0. -/
theorem outs4 (c : Dev nD) (t : Fin cfg0.N) : (outsAt0 m c t).1 = k0_pay3 (xsc m c) (dsc m c) (m ((c : Thread nD τ).loc main_arg0)) (m ((c : Thread nD τ).loc main_arg1)) := by
  simp only [outsAt0, out0_A_4]
  frame_out
  rw [blk0, blk1, blk2, blk3]
  simp only [read_unread_whole, first_eq]

theorem res4 (c : Dev nD) : (dats m 0 c).arrAt 4 cfg0.N = k0_pay3 (xsc m c) (dsc m c) (m ((c : Thread nD τ).loc main_arg0)) (m ((c : Thread nD τ).loc main_arg1)) := by
  generalize hG : k0_pay3 (xsc m c) (dsc m c) (m ((c : Thread nD τ).loc main_arg0)) (m ((c : Thread nD τ).loc main_arg1)) = G
  refine (dats m 0 c).arrAt_eq_of_covers 4 _ (by decide +kernel) fun t hf y => ?_
  blk_simp
  rw [after0_4, outs4, hG]
  blk_ext! [index4 t]

/-- The one grid point leaves the payload of the whole arrays in result 1. -/
theorem outs5 (c : Dev nD) (t : Fin cfg0.N) : (outsAt0 m c t).2.1 = k0_pay1 (xsc m c) (m ((c : Thread nD τ).loc main_arg0)) := by
  simp only [outsAt0, out0_A_5]
  frame_out
  rw [blk0, blk2]
  simp only [read_unread_whole, first_eq]

theorem res5 (c : Dev nD) : (dats m 0 c).arrAt 5 cfg0.N = k0_pay1 (xsc m c) (m ((c : Thread nD τ).loc main_arg0)) := by
  generalize hG : k0_pay1 (xsc m c) (m ((c : Thread nD τ).loc main_arg0)) = G
  refine (dats m 0 c).arrAt_eq_of_covers 5 _ (by decide +kernel) fun t hf y => ?_
  blk_simp
  rw [after0_5, outs5, hG]
  blk_ext! [index5 t]

/-- The one grid point leaves the payload of the whole arrays in result 2. -/
theorem outs6 (c : Dev nD) (t : Fin cfg0.N) : (outsAt0 m c t).2.2 = k0_pay2 (dsc m c) (m ((c : Thread nD τ).loc main_arg1)) := by
  simp only [outsAt0, out0_A_6]
  frame_out
  rw [blk1, blk3]
  simp only [read_unread_whole, first_eq]

theorem res6 (c : Dev nD) : (dats m 0 c).arrAt 6 cfg0.N = k0_pay2 (dsc m c) (m ((c : Thread nD τ).loc main_arg1)) := by
  generalize hG : k0_pay2 (dsc m c) (m ((c : Thread nD τ).loc main_arg1)) = G
  refine (dats m 0 c).arrAt_eq_of_covers 6 _ (by decide +kernel) fun t hf y => ?_
  blk_simp
  rw [after0_6, outs6, hG]
  blk_ext! [index6 t]

/-- A code of x: the element of the reshaped array, scaled and clipped. -/
theorem pay1_apply (s : Elt Ideal .f32) (X : Vec Ideal S4x6144x1280 .bf16) (j : S1280x24576.Idx) :
    k0_pay1 s X j = min (Ideal.ofBits .f32 1138753536#32) (max (Ideal.ofBits .f32 3286237184#32)
      (X (ix3 ⟨(j 1).val / 6144, by have : (j 1).val < 24576 := (j 1).isLt; omega⟩ ⟨(j 1).val % 6144, by omega⟩ (j 0)) * Ideal.div 1 s)) := by
  pointwise [k0_pay1]

/-- A code of dy. -/
theorem pay2_apply (s : Elt Ideal .f32) (X : Vec Ideal S4x6144x5120 .bf16) (j : S5120x24576.Idx) :
    k0_pay2 s X j = min (Ideal.ofBits .f32 1197473792#32) (max (Ideal.ofBits .f32 3344957440#32)
      (X (ix3 ⟨(j 1).val / 6144, by have : (j 1).val < 24576 := (j 1).isLt; omega⟩ ⟨(j 1).val % 6144, by omega⟩ (j 0)) * Ideal.div 1 s)) := by
  pointwise [k0_pay2]

/-- A product element: the sum over all rows of both codes, times both scales. -/
theorem pay3_apply (s s' : Elt Ideal .f32) (X : Vec Ideal S4x6144x1280 .bf16) (Y : Vec Ideal S4x6144x5120 .bf16) (j : S1280x5120.Idx) :
    k0_pay3 s s' X Y j = (∑ k : Fin 24576, k0_pay1 s X (ix2 (j 0) k) * k0_pay2 s' Y (ix2 (j 1) k)) * (s * s') := by
  pointwise [k0_pay3]

/-- The scale arrays are inputs of the region, which leaves them as it found them. -/
theorem kept_xs (r : PUnit × MemSt nD τ sig (Elt Ideal)) (h : Pipeline.FramePost cfgs (dats m) 0 (V m) r) (c : Dev nD) :
    r.2.mem ((c : Thread nD τ).loc main_v16) = fun _ => xsc m c :=
  (((h c).1 0).trans (((dats m 0 c).arrAt_in 0 rfl _).trans (A_eq m c 0))).trans (V_xsc m c)
theorem kept_ds (r : PUnit × MemSt nD τ sig (Elt Ideal)) (h : Pipeline.FramePost cfgs (dats m) 0 (V m) r) (c : Dev nD) :
    r.2.mem ((c : Thread nD τ).loc main_v33) = fun _ => dsc m c :=
  (((h c).1 1).trans (((dats m 0 c).arrAt_in 1 rfl _).trans (A_eq m c 1))).trans (V_dsc m c)

/-- The scale of x is the host's scale of its greatest magnitude. -/
theorem xsc_eq (c : Dev nD) (X : FVec Ideal S4x6144x1280 .bf16) (hX : m (c, Proc.tc.devRef main_arg0) = X) :
    xsc m c = hostScale (hostMaxX X) (Shape.Idx.first h_S_) := by
  unfold xsc
  exact (congrFun (V_xs m c X hX) _).trans (congrArg (hostScale (hostMaxX X)) (Subsingleton.elim _ _))
theorem dsc_eq (c : Dev nD) (X : FVec Ideal S4x6144x5120 .bf16) (hX : m (c, Proc.tc.devRef main_arg1) = X) :
    dsc m c = hostScale (hostMaxDy X) (Shape.Idx.first h_S_) := by
  unfold dsc
  exact (congrFun (V_ds m c X hX) _).trans (congrArg (hostScale (hostMaxDy X)) (Subsingleton.elim _ _))

/-- Every execution ends with the results at the payloads of the whole arrays and the scales, the arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v34_0) = k0_pay3 (F := Ideal) (xsc m c) (dsc m c)
        (m ((c : Thread nD τ).loc main_arg0)) (m ((c : Thread nD τ).loc main_arg1))
      ∧ r.2.mem ((c.tc : Thread nD τ).loc main_v34_1) = k0_pay1 (F := Ideal) (xsc m c) (m ((c : Thread nD τ).loc main_arg0))
      ∧ r.2.mem ((c.tc : Thread nD τ).loc main_v16) = (fun _ => xsc m c)
      ∧ r.2.mem ((c.tc : Thread nD τ).loc main_v34_2) = k0_pay2 (F := Ideal) (dsc m c) (m ((c : Thread nD τ).loc main_arg1))
      ∧ r.2.mem ((c.tc : Thread nD τ).loc main_v33) = (fun _ => dsc m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(Cert.ReferenceIdeal.Value.post4 m r h c).trans (res4 m c), (Cert.ReferenceIdeal.Value.post5 m r h c).trans (res5 m c),
      kept_xs m r h c, (Cert.ReferenceIdeal.Value.post6 m r h c).trans (res6 m c), kept_ds m r h c,
      Cert.ReferenceIdeal.Value.kept_main_arg0 m r h c, Cert.ReferenceIdeal.Value.kept_main_arg1 m r h c⟩)
    (run_main m ρ)

end Cert.ReferenceIdeal.Hand

end
-- ==== Proof.Scale.lean ====
/- The scale of a maximum: the kernel's bit-by-bit search for the exponent and the reference's logarithm give the same power of two. -/
module

public import proofs.«01_k».proof.Proof.AmaxRunsIdeal
public import proofs.«01_k».proof.Proof.RefHost
public import Idealize.ShloMosaic.Lib.Claim

@[expose] public section

set_option maxRecDepth 16384

noncomputable section

namespace Cert.Scale

open Idealize.ShloMosaic
open Cert.KernelIdeal.Amax (step field scaleOfField)

/-! ## The powers of two a field stands for -/

/-- The number whose exponent field is `n` and whose other bits are zero. -/
@[irreducible] def P (n : ℕ) : EReal := Scalar.ofBits (F := Ideal) .f32 (Scalar.shli (BitVec.ofNat 32 n) 23#32)

theorem ofBits_shl (n : ℕ) : (Scalar.ofBits (F := Ideal) .f32 (Scalar.shli (BitVec.ofNat 32 n) 23#32) : EReal) = P n := by unfold P; rfl

theorem shl_toNat (n : ℕ) (hn : n < 256) : (Scalar.shli (BitVec.ofNat 32 n) 23#32).toNat = n * 8388608 := by
  have h : Scalar.shli (BitVec.ofNat 32 n) 23#32 = BitVec.ofNat 32 n <<< 23#32 := by
    unfold Scalar.shli IntOp.shli
    rw [if_pos (by decide)]
  rw [h, BitVec.shiftLeft_eq', BitVec.toNat_shiftLeft, Nat.shiftLeft_eq, BitVec.toNat_ofNat, BitVec.toNat_ofNat]
  norm_num
  omega

theorem P_eq (n : ℕ) (hn : n < 256) : P n = if n = 255 then ⊤ else if n = 0 then 0 else (((2 : ℝ) ^ ((n : ℤ) - 127) : ℝ) : EReal) := by
  have hw := shl_toNat n hn
  have hP : P n = Ideal.ieee 8 23 (Scalar.shli (BitVec.ofNat 32 n) 23#32) := by unfold P; rfl
  rw [hP]
  generalize Scalar.shli (BitVec.ofNat 32 n) 23#32 = b at *
  have hs : (b.extractLsb' (8 + 23) 1 == 1#1) = false := by
    rw [beq_eq_false_iff_ne]
    intro h
    have := congrArg BitVec.toNat h
    rw [BitVec.extractLsb'_toNat, Nat.shiftRight_eq_div_pow, hw] at this
    norm_num at this
    omega
  have he : (b.extractLsb' 23 8).toNat = n := by
    rw [BitVec.extractLsb'_toNat, Nat.shiftRight_eq_div_pow, hw]
    omega
  have hf : (b.extractLsb' 0 23).toNat = 0 := by
    rw [BitVec.extractLsb'_toNat, Nat.shiftRight_eq_div_pow, hw]
    omega
  unfold Ideal.ieee
  simp only [hs, he, hf]
  by_cases h1 : n = 255
  · simp [h1]
  by_cases h0 : n = 0
  · simp [h0]
  rw [if_neg (by omega), if_neg h0, if_neg h1, if_neg h0]
  refine congrArg (fun r : ℝ => (r : EReal)) ?_
  simp only [Bool.false_eq_true, if_false, add_zero, one_mul]
  rw [show ((2 ^ 23 : ℕ) : ℝ) = (2 : ℝ) ^ (23 : ℤ) by norm_num, ← zpow_add₀ (by norm_num)]
  congr 1
  norm_num

theorem P_zero : P 0 = 0 := by rw [P_eq 0 (by norm_num)]; norm_num
theorem P_top : P 255 = ⊤ := by rw [P_eq 255 (by norm_num)]; norm_num
theorem P_mid (n : ℕ) (h0 : 1 ≤ n) (h1 : n ≤ 254) : P n = (((2 : ℝ) ^ ((n : ℤ) - 127) : ℝ) : EReal) := by
  rw [P_eq n (by omega), if_neg (by omega), if_neg (by omega)]

/-! ## The search -/

theorem step_eq (t : EReal) (n k : ℕ) : step (F := Ideal) t (BitVec.ofNat 32 n) (BitVec.ofNat 32 k) = BitVec.ofNat 32 (if P (n + k) ≤ t then n + k else n) := by
  unfold step
  rw [show Scalar.addi (BitVec.ofNat 32 n) (BitVec.ofNat 32 k) = BitVec.ofNat 32 (n + k) from (BitVec.ofNat_add n k).symm, ofBits_shl]
  generalize P (n + k) = p
  show Scalar.select (BitVec.ofBool (decide (p ≤ t))) _ _ = _
  by_cases h : p ≤ t
  · rw [if_pos h, decide_eq_true h]; rfl
  · rw [if_neg h, decide_eq_false h]; rfl

/-- `n` bounds the number's exponent field from below, and `n + k` from above. -/
def Within (t : EReal) (n k : ℕ) : Prop := n + k ≤ 256 ∧ P n ≤ t ∧ (n + k = 256 ∨ t < P (n + k))

theorem step_within (t : EReal) (n k : ℕ) (h : Within t n (k + k)) :
    ∃ n', step (F := Ideal) t (BitVec.ofNat 32 n) (BitVec.ofNat 32 k) = BitVec.ofNat 32 n' ∧ Within t n' k := by
  obtain ⟨hle, hlo, hhi⟩ := h
  rw [step_eq]
  by_cases hp : P (n + k) ≤ t
  · exact ⟨n + k, by rw [if_pos hp], by omega, hp, by rw [add_assoc]; exact hhi⟩
  · exact ⟨n, by rw [if_neg hp], by omega, hlo, .inr (lt_of_not_ge hp)⟩

/-- The field the search finds of a number that is not negative. -/
theorem field_spec (t : EReal) (ht : 0 ≤ t) : ∃ n, field (F := Ideal) t = BitVec.ofNat 32 n ∧ Within t n 1 := by
  unfold field
  obtain ⟨a, ha, hwa⟩ := step_within t 0 128 ⟨by norm_num, by rw [P_zero]; exact ht, .inl (by norm_num)⟩
  obtain ⟨b, hb, hwb⟩ := step_within t a 64 hwa
  obtain ⟨c, hc, hwc⟩ := step_within t b 32 hwb
  obtain ⟨d, hd, hwd⟩ := step_within t c 16 hwc
  obtain ⟨e, he, hwe⟩ := step_within t d 8 hwd
  obtain ⟨f, hf, hwf⟩ := step_within t e 4 hwe
  obtain ⟨g, hg, hwg⟩ := step_within t f 2 hwf
  obtain ⟨n, hn, hwn⟩ := step_within t g 1 hwg
  exact ⟨n, by rw [ha, hb, hc, hd, he, hf, hg, hn], hwn⟩

/-- The scale a field gives. -/
theorem scaleOfField_eq (n : ℕ) (hn : n < 256) : scaleOfField (F := Ideal) (BitVec.ofNat 32 n) = if n = 0 ∨ n = 255 then 1 else P (n + 1) := by
  have h1 : P 127 = 1 := by rw [P_mid 127 (by norm_num) (by norm_num)]; norm_num
  have hc : ∀ k : ℕ, k < 256 → Scalar.cmpi .eq (BitVec.ofNat 32 n) (BitVec.ofNat 32 k) = BitVec.ofBool (decide (n = k)) := by
    intro k hk
    show BitVec.ofBool (BitVec.ofNat 32 n == BitVec.ofNat 32 k) = _
    refine congrArg BitVec.ofBool ?_
    by_cases h : n = k
    · subst h; simp
    · rw [decide_eq_false h, beq_eq_false_iff_ne]
      intro h'
      have := congrArg BitVec.toNat h'
      rw [BitVec.toNat_ofNat, BitVec.toNat_ofNat] at this
      omega
  unfold scaleOfField
  rw [hc 0 (by norm_num), hc 255 (by norm_num)]
  by_cases h : n = 0 ∨ n = 255
  · rw [if_pos h, ← h1, ← ofBits_shl]
    rcases h with h | h <;> subst h <;> rfl
  · rw [if_neg h, decide_eq_false (fun e => h (.inl e)), decide_eq_false (fun e => h (.inr e)), ← ofBits_shl]
    refine congrArg (fun w => (Scalar.ofBits (F := Ideal) .f32 (Scalar.shli w 23#32) : EReal)) ?_
    show BitVec.ofNat 32 n - 126#32 + 127#32 = BitVec.ofNat 32 (n + 1)
    rw [BitVec.ofNat_add]
    generalize BitVec.ofNat 32 n = w
    rw [BitVec.sub_eq_add_neg, BitVec.add_assoc]
    rfl

/-! ## The reference's scale -/

/-- The reference's scale of a number, in the operations of the extended reals. -/
def hostS (t : EReal) : EReal :=
  let e := if t < P 1 ∨ t = ⊤ then 0 else Ideal.liftRound Int.floor (Ideal.div (Ideal.log t) (Ideal.log 2)) + 1
  if 127 < e then ⊤ else Ideal.pow 2 e

theorem c127 : (127 : EReal) = ((127 : ℝ) : EReal) := rfl

theorem two_eq : (Ideal.ofBits .f32 0x40000000#32 : EReal) = 2 := by
  have h := ofBits_shl 128
  rw [P_mid 128 (by norm_num) (by norm_num)] at h
  exact Eq.trans h (by norm_num; rfl)
theorem one_eq : (Ideal.ofBits .f32 0x3F800000#32 : EReal) = 1 := by
  have h := ofBits_shl 127
  rw [P_mid 127 (by norm_num) (by norm_num)] at h
  exact Eq.trans h (by norm_num)
theorem tiny_eq : (Ideal.ofBits .f32 0x00800000#32 : EReal) = P 1 := ofBits_shl 1
theorem top_eq : (Ideal.ofBits .f32 0x7F800000#32 : EReal) = ⊤ := Eq.trans (ofBits_shl 255) P_top
theorem zero_eq : (Ideal.ofBits .f32 0x00000000#32 : EReal) = 0 := Eq.trans (ofBits_shl 0) P_zero
theorem lim_eq : (Ideal.ofBits .f32 0x42FE0000#32 : EReal) = 127 := by
  show Ideal.ieee 8 23 0x42FE0000#32 = 127
  simp [Ideal.ieee]
  rw [c127, ← EReal.coe_mul]
  norm_num

theorem sel_eq (p : Prop) [Decidable p] (c : BitVec 1) (hc : c = BitVec.ofBool (decide p)) (a b : EReal) : Scalar.select c a b = if p then a else b := by
  subst hc
  by_cases h : p
  · rw [if_pos h, decide_eq_true h]; rfl
  · rw [if_neg h, decide_eq_false h]; rfl

/-- The host's scale, in the operations of the extended reals. -/
theorem hostScale_apply (t : FVec Ideal Cert.ReferenceIdeal.S_ .f32) (i : Cert.ReferenceIdeal.S_.Idx) : Cert.ReferenceIdeal.Hand.hostScale t i = hostS (t i) := by
  unfold hostS
  dsimp only
  rw [← two_eq, ← one_eq, ← tiny_eq, ← top_eq, ← zero_eq, ← lim_eq]
  have hor : Scalar.ori (BitVec.ofBool (decide (t i < Ideal.ofBits .f32 0x00800000#32))) (BitVec.ofBool (decide (t i = Ideal.ofBits .f32 0x7F800000#32))) = BitVec.ofBool (decide (t i < Ideal.ofBits .f32 0x00800000#32 ∨ t i = Ideal.ofBits .f32 0x7F800000#32)) := by
    by_cases h1 : t i < Ideal.ofBits .f32 0x00800000#32 <;> by_cases h2 : t i = Ideal.ofBits .f32 0x7F800000#32 <;> simp only [h1, h2, decide_true, decide_false, or_true, true_or, or_false] <;> rfl
  have he : Scalar.select (Scalar.ori (BitVec.ofBool (decide (t i < Ideal.ofBits .f32 0x00800000#32))) (BitVec.ofBool (decide (t i = Ideal.ofBits .f32 0x7F800000#32)))) (Ideal.ofBits .f32 0x00000000#32 : EReal) (Ideal.liftRound Int.floor (Ideal.div (Ideal.log (t i)) (Ideal.log (Ideal.ofBits .f32 0x40000000#32))) + Ideal.ofBits .f32 0x3F800000#32) = _ := sel_eq _ _ hor _ _
  rw [← he]
  exact sel_eq _ _ rfl _ _

/-- Kernel and reference give a number that is not negative the same scale. -/
theorem scale_eq (t : EReal) (ht : 0 ≤ t) : scaleOfField (F := Ideal) (field (F := Ideal) t) = hostS t := by
  obtain ⟨n, hn, hle, hlo, hhi⟩ := field_spec t ht
  rw [hn, scaleOfField_eq n (by omega)]
  have p2 : Ideal.pow 2 0 = 1 := by
    show ((Real.rpow 2 0 : ℝ) : EReal) = 1
    simp
  have hz0 : ¬ (127 : EReal) < 0 := by
    rw [c127, ← EReal.coe_zero, EReal.coe_lt_coe_iff]
    norm_num
  by_cases h0 : n = 0
  · subst h0
    rw [if_pos (.inl rfl)]
    have : t < P 1 := hhi.resolve_left (by norm_num)
    unfold hostS
    dsimp only
    rw [if_pos (Or.inl this : t < P 1 ∨ t = ⊤), if_neg hz0, p2]
  by_cases h255 : n = 255
  · subst h255
    rw [if_pos (.inr rfl)]
    rw [P_top, top_le_iff] at hlo
    unfold hostS
    dsimp only
    rw [if_pos (Or.inr hlo : t < P 1 ∨ t = ⊤), if_neg hz0, p2]
  rw [if_neg (by omega)]
  have hlt : t < P (n + 1) := hhi.resolve_left (by omega)
  have htop : t ≠ ⊤ := ne_top_of_lt hlt
  rw [P_mid n (by omega) (by omega)] at hlo
  lift t to ℝ using ⟨htop, ne_bot_of_le_ne_bot (by norm_num) ht⟩
  have hlo' : (2 : ℝ) ^ ((n : ℤ) - 127) ≤ t := by exact_mod_cast hlo
  have htpos : 0 < t := lt_of_lt_of_le (by positivity) hlo'
  have hn1 : ¬ ((t : EReal) < P 1 ∨ (t : EReal) = ⊤) := by
    rintro (h | h)
    · rw [P_mid 1 (by norm_num) (by norm_num)] at h
      have h' : t < (2 : ℝ) ^ (((1 : ℕ) : ℤ) - 127) := by exact_mod_cast h
      have : (2 : ℝ) ^ (((1 : ℕ) : ℤ) - 127) ≤ (2 : ℝ) ^ ((n : ℤ) - 127) := zpow_le_zpow_right₀ (by norm_num) (by push_cast; omega)
      linarith
    · exact EReal.coe_ne_top _ h
  have hl2 : (0 : ℝ) < Real.log 2 := Real.log_pos (by norm_num)
  have hdiv : Ideal.div (Ideal.log t) (Ideal.log 2) = ((Real.log t / Real.log 2 : ℝ) : EReal) := by
    have e1 : Ideal.log t = ((Real.log t : ℝ) : EReal) := by
      show (if t ≤ 0 then (⊥ : EReal) else _) = _
      rw [if_neg (not_le.mpr htpos)]
    have e2 : Ideal.log 2 = ((Real.log 2 : ℝ) : EReal) := by
      show Ideal.log ((2 : ℝ) : EReal) = _
      show (if (2 : ℝ) ≤ 0 then (⊥ : EReal) else ((Real.log 2 : ℝ) : EReal)) = _
      rw [if_neg (by norm_num)]
    rw [e1, e2]
    unfold Ideal.div
    rw [if_neg (by exact_mod_cast hl2.ne'), div_eq_mul_inv, EReal.coe_mul, EReal.coe_inv]
  have hfl : Ideal.liftRound Int.floor ((Real.log t / Real.log 2 : ℝ) : EReal) = (((⌊Real.log t / Real.log 2⌋ : ℤ) : ℝ) : EReal) := rfl
  have hge : ((n : ℤ) - 127) ≤ ⌊Real.log t / Real.log 2⌋ := by
    rw [Int.le_floor, le_div_iff₀ hl2, ← Real.log_zpow]
    exact Real.log_le_log (by positivity) hlo'
  unfold hostS
  dsimp only
  rw [if_neg hn1, hdiv, hfl]
  generalize hz : ⌊Real.log t / Real.log 2⌋ = z at *
  rw [show (((z : ℝ) : EReal) + 1) = (((z + 1 : ℤ) : ℝ) : EReal) by push_cast; rfl]
  by_cases h254 : n = 254
  · subst h254
    rw [P_top, if_pos]
    have : (127 : ℝ) < ((z + 1 : ℤ) : ℝ) := by
      have : (127 : ℤ) < z + 1 := by push_cast at hge; omega
      exact_mod_cast this
    rw [c127, EReal.coe_lt_coe_iff]
    exact this
  · rw [P_mid (n + 1) (by omega) (by omega)] at hlt ⊢
    have hlt' : t < (2 : ℝ) ^ (((n + 1 : ℕ) : ℤ) - 127) := by exact_mod_cast hlt
    have hzlt : z < ((n + 1 : ℕ) : ℤ) - 127 := by
      rw [← hz, Int.floor_lt, div_lt_iff₀ hl2, ← Real.log_zpow]
      exact Real.log_lt_log htpos hlt'
    have hz' : z + 1 = ((n + 1 : ℕ) : ℤ) - 127 := by push_cast at hzlt ⊢; omega
    rw [hz', if_neg]
    · show _ = ((Real.rpow 2 _ : ℝ) : EReal)
      rw [Real.rpow_eq_pow, Real.rpow_intCast]
    · have : ¬ ((127 : ℝ) < (((((n + 1 : ℕ) : ℤ) - 127 : ℤ)) : ℝ)) := by
        have : ¬ ((127 : ℤ) < ((n + 1 : ℕ) : ℤ) - 127) := by push_cast; omega
        exact_mod_cast this
      rw [c127, EReal.coe_lt_coe_iff]
      exact this

end Cert.Scale

end
-- ==== Proof.MaxFold.lean ====
/- Greatest elements by their bounds: a reduction by maximum is at most `u` exactly when what it reduces is. -/
module

public import proofs.«01_k».proof.Proof.Scale

@[expose] public section

noncomputable section

namespace Cert.MaxFold

open Idealize.ShloMosaic

variable {s t : Shape} {φ : FTy}

theorem fold_le (S : Finset s.Idx) (b : EReal) (hb : b = ⊥) (f : s.Idx → EReal) (u : EReal) : S.fold max b f ≤ u ↔ ∀ i ∈ S, f i ≤ u := by
  rw [Finset.fold_max_le, hb]
  exact ⟨fun h => h.2, fun h => ⟨bot_le, h⟩⟩

/-- Every element of a vector reduced by maximum is at most `u` exactly when every element before is. -/
theorem multiReduction_le {axes : List (Fin s.rank)} (src : FVec Ideal s φ) (acc : BitVec φ.bits) (h : s.Reduces axes t) (hφ : FKind.Formats φ)
    (hacc : acc = FKind.maximumf.neutral φ hφ) (hb : (FloatOps.ofBits (F := Ideal) φ acc : EReal) = ⊥) (u : EReal) :
    (∀ j, (multiReduction .maximumf axes t src acc h hφ hacc j : EReal) ≤ u) ↔ ∀ i, (src i : EReal) ≤ u := by
  have key : ∀ j, (multiReduction .maximumf axes t src acc h hφ hacc j : EReal) ≤ u ↔ ∀ i ∈ Finset.univ.filter fun i => h.drop i = j, (src i : EReal) ≤ u := by
    intro j
    rw [multiReduction_maximumf_eq_fold]
    exact fold_le _ _ hb src u
  exact ⟨fun hj i => (key (h.drop i)).mp (hj _) i (by simp), fun hi j => (key j).mpr fun i _ => hi i⟩

/-- The same for the host's reduction. -/
theorem reduce_le {u' : Shape} {axes : List (Fin s.rank)} (src : FVec Ideal s φ) (init : FVec Ideal u' φ) (h : s.ReducesTo axes t) (hu : 0 < u'.numel)
    (hb : (init (Shape.Idx.first hu) : EReal) = ⊥) (u : EReal) :
    (∀ j, (Host.reduce (FloatOps.maximumf (F := Ideal) (φ := φ)) src init h hu j : EReal) ≤ u) ↔ ∀ i, (src i : EReal) ≤ u := by
  have key : ∀ j, (Host.reduce (FloatOps.maximumf (F := Ideal) (φ := φ)) src init h hu j : EReal) ≤ u ↔ ∀ i ∈ Finset.univ.filter fun i => h.drop i = j, (src i : EReal) ≤ u := by
    intro j
    rw [Host.reduce_eq_fold]
    exact fold_le _ _ hb src u
  exact ⟨fun hj i => (key (h.drop i)).mp (hj _) i (by simp), fun hi j => (key j).mpr fun i _ => hi i⟩

/-- A reshape moves elements only. -/
theorem forall_shapeCast {α : Type} (x : s.Idx → α) (h : s.ShapeCasts t) (p : α → Prop) : (∀ j, p (shapeCast t x h j)) ↔ ∀ i, p (x i) := by
  refine ⟨fun hj i => ?_, fun hi j => hi _⟩
  have := hj ((Shape.reshapeEquiv h).symm i)
  unfold shapeCast at this
  rwa [Equiv.apply_symm_apply] at this

theorem bot32 : (FloatOps.ofBits (F := Ideal) .f32 0xFF800000#32 : EReal) = ⊥ := by
  show Ideal.ieee 8 23 0xFF800000#32 = ⊥
  simp [Ideal.ieee]
theorem bot16 : (FloatOps.ofBits (F := Ideal) .bf16 0xFF80#16 : EReal) = ⊥ := by
  show Ideal.ieee 8 7 0xFF80#16 = ⊥
  simp [Ideal.ieee]

/-- Magnitudes are not negative. -/
theorem abs_nonneg (a : EReal) : 0 ≤ max a (-a) := by
  rcases le_total 0 a with h | h
  · exact le_max_of_le_left h
  · exact le_max_of_le_right (EReal.neg_nonneg.mpr h)

end Cert.MaxFold

end
-- ==== Proof.MaxBounds.lean ====
/- Bounds of the maxima the maximum kernel takes and of those the reference takes: both bound the magnitudes of the whole operand. -/
module

public import proofs.«01_k».proof.Proof.AmaxFrameIdeal
public import proofs.«01_k».proof.Proof.MaxFold
public import Idealize.ShloMosaic.Lib.Pipeline.ValueKit

@[expose] public section

set_option maxRecDepth 16384

noncomputable section

namespace Cert.KernelIdeal.Amax

open Cert.KernelIdeal Cert.KernelIdeal.Gen
open Idealize.ShloMosaic Idealize.ShloMosaic.TcCoe Idealize.SL.Sem
open Idealize.ShloMosaic.Pipeline (Dat)
open Cert.MaxFold
open Cert.ReferenceIdeal.Hand (hostScale hostMaxX hostMaxDy)

variable (V : (c : Dev nD) → (b : Ref sig .tc) → Buf (Elt Ideal) ((c : Thread nD τ).loc b)) (c : Dev nD)
  (X : Vec Ideal S4x6144x1280 .bf16) (Y : Vec Ideal S4x6144x5120 .bf16)

/-! ## Bounds of a block's maxima -/

/-- Every magnitude of `v` is at most `u`. -/
def AbsLe {s : Shape} (v : s.Idx → EReal) (u : EReal) : Prop := ∀ i, max (v i) (-(v i)) ≤ u

theorem absLe_shapeCast {s t : Shape} (v : s.Idx → EReal) (h : s.ShapeCasts t) (u : EReal) : AbsLe (shapeCast t v h) u ↔ AbsLe v u :=
  forall_shapeCast v h fun a => max a (-a) ≤ u

theorem pay1_le (v : Vec Ideal S512x1280 .bf16) (u : EReal) : (∀ j, (k0_pay1 (F := Ideal) v j : EReal) ≤ u) ↔ AbsLe v u := by
  unfold k0_pay1
  dsimp only
  refine (multiReduction_le (s := S32x16x1280) (t := S16x1280) (φ := .bf16) _ _ _ _ _ bot16 u).trans ?_
  refine (forall_shapeCast (absf (shapeCast S512x1280 v shapeCasts_S512x1280_S512x1280 : FVec Ideal S512x1280 .bf16) : S512x1280.Idx → EReal) shapeCasts_S512x1280_S32x16x1280 fun a : EReal => a ≤ u).trans ?_
  exact absLe_shapeCast v shapeCasts_S512x1280_S512x1280 u

theorem pay2_le (v : Vec Ideal S512x5120 .bf16) (u : EReal) : (∀ j, (k0_pay2 (F := Ideal) v j : EReal) ≤ u) ↔ AbsLe v u := by
  unfold k0_pay2
  dsimp only
  refine (multiReduction_le (s := S32x16x5120) (t := S16x5120) (φ := .bf16) _ _ _ _ _ bot16 u).trans ?_
  refine (forall_shapeCast (absf (shapeCast S512x5120 v shapeCasts_S512x5120_S512x5120 : FVec Ideal S512x5120 .bf16) : S512x5120.Idx → EReal) shapeCasts_S512x5120_S32x16x5120 fun a : EReal => a ≤ u).trans ?_
  exact absLe_shapeCast v shapeCasts_S512x5120_S512x5120 u

/-! ## Bounds of the running maxima -/

theorem mx_le (u : EReal) : ∀ n, (∀ j, (mx V c n j : EReal) ≤ u) ↔ ∀ k ≤ n, AbsLe (xb V c (pt k)) u
  | 0 => by
    refine Iff.trans ((forall_shapeCast (k0_pay1 (xb V c (pt 0))) shapeCasts_S16x1280_S16x1280 fun a : EReal => a ≤ u).trans (pay1_le _ u)) ?_
    exact ⟨fun h k hk => by rwa [Nat.le_zero.mp hk], fun h => h 0 le_rfl⟩
  | n + 1 => by
    refine Iff.trans (forall_shapeCast (maximumf (mx V c n) (k0_pay1 (xb V c (pt (n + 1))))) shapeCasts_S16x1280_S16x1280 fun a : EReal => a ≤ u) ?_
    refine Iff.trans (forall_congr' fun j => max_le_iff (a := (mx V c n j : EReal)) (b := (k0_pay1 (xb V c (pt (n + 1))) j : EReal))) ?_
    rw [forall_and, mx_le u n, pay1_le]
    refine ⟨fun h k hk => ?_, fun h => ⟨fun k hk => h k (by omega), h _ le_rfl⟩⟩
    rcases Nat.lt_or_eq_of_le hk with h' | h'
    · exact h.1 k (by omega)
    · rw [h']; exact h.2

theorem my_le (u : EReal) : ∀ n, (∀ j, (my V c n j : EReal) ≤ u) ↔ ∀ k ≤ n, AbsLe (db V c (pt k)) u
  | 0 => by
    refine Iff.trans ((forall_shapeCast (k0_pay2 (db V c (pt 0))) shapeCasts_S16x5120_S16x5120 fun a : EReal => a ≤ u).trans (pay2_le _ u)) ?_
    exact ⟨fun h k hk => by rwa [Nat.le_zero.mp hk], fun h => h 0 le_rfl⟩
  | n + 1 => by
    refine Iff.trans (forall_shapeCast (maximumf (my V c n) (k0_pay2 (db V c (pt (n + 1))))) shapeCasts_S16x5120_S16x5120 fun a : EReal => a ≤ u) ?_
    refine Iff.trans (forall_congr' fun j => max_le_iff (a := (my V c n j : EReal)) (b := (k0_pay2 (db V c (pt (n + 1))) j : EReal))) ?_
    rw [forall_and, my_le u n, pay2_le]
    refine ⟨fun h k hk => ?_, fun h => ⟨fun k hk => h k (by omega), h _ le_rfl⟩⟩
    rcases Nat.lt_or_eq_of_le hk with h' | h'
    · exact h.1 k (by omega)
    · rw [h']; exact h.2

/-! ## The blocks cover the operands -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

/-- The rows of 48 blocks of 512 are all rows. -/
theorem cover_le {n : ℕ} (A : (⟨2, ![24576, n]⟩ : Shape).Idx → EReal) (B : ℕ → (⟨2, ![512, n]⟩ : Shape).Idx → EReal) (u : EReal)
    (hB : ∀ k, ∀ hk : k ≤ 47, ∀ (r : Fin 512) (j : Fin n), B k (ix2 r j) = A (ix2 ⟨512 * k + r.val, by omega⟩ j)) :
    (∀ k ≤ 47, AbsLe (B k) u) ↔ AbsLe A u := by
  constructor
  · intro h i
    obtain ⟨r, j, rfl⟩ : ∃ (r : Fin 24576) (j : Fin n), i = ix2 r j := ⟨i 0, i 1, Shape.idx_ext₂ rfl rfl⟩
    have h2 := h (r.val / 512) (by omega) (ix2 ⟨r.val % 512, by omega⟩ j)
    rw [hB _ (by omega)] at h2
    have e : (⟨512 * (r.val / 512) + r.val % 512, by omega⟩ : Fin 24576) = r := Fin.ext (by show 512 * (r.val / 512) + r.val % 512 = r.val; omega)
    rwa [e] at h2
  · intro h k hk i
    obtain ⟨r, j, rfl⟩ : ∃ (r : Fin 512) (j : Fin n), i = ix2 r j := ⟨i 0, i 1, Shape.idx_ext₂ rfl rfl⟩
    rw [hB k hk]
    exact h _

theorem xb_apply (t : Fin cfg0.N) (r : Fin 512) (j : Fin 1280) : xb V c t (ix2 r j) =
    (V c main_v0 : S24576x1280.Idx → Elt Ideal .bf16) (ix2 ⟨512 * t.val + r.val, by have := lt_N t; omega⟩ j) := by
  obtain ⟨h0, h1⟩ := index0 t
  blk_ext! [xb, iblk, h0, h1]

theorem xb_le (u : EReal) : (∀ k ≤ 47, AbsLe (xb V c (pt k)) u) ↔ AbsLe (V c main_v0 : S24576x1280.Idx → Elt Ideal .bf16) u :=
  cover_le (V c main_v0) (fun k => xb V c (pt k)) u fun k hk r j =>
    (xb_apply V c (pt k) r j).trans (congrArg (V c main_v0 : S24576x1280.Idx → Elt Ideal .bf16)
      (Shape.idx_ext₂ (by show 512 * (k % 48) + r.val = 512 * k + r.val; omega) rfl))

theorem db_apply (t : Fin cfg0.N) (r : Fin 512) (j : Fin 5120) : db V c t (ix2 r j) =
    (V c main_v1 : S24576x5120.Idx → Elt Ideal .bf16) (ix2 ⟨512 * t.val + r.val, by have := lt_N t; omega⟩ j) := by
  obtain ⟨h0, h1⟩ := index1 t
  blk_ext! [db, iblk, h0, h1]

theorem db_le (u : EReal) : (∀ k ≤ 47, AbsLe (db V c (pt k)) u) ↔ AbsLe (V c main_v1 : S24576x5120.Idx → Elt Ideal .bf16) u :=
  cover_le (V c main_v1) (fun k => db V c (pt k)) u fun k hk r j =>
    (db_apply V c (pt k) r j).trans (congrArg (V c main_v1 : S24576x5120.Idx → Elt Ideal .bf16)
      (Shape.idx_ext₂ (by show 512 * (k % 48) + r.val = 512 * k + r.val; omega) rfl))

/-! ## The maximum of the running maxima -/

theorem one_elem (i j : S1x1x1.Idx) : i = j := by
  funext a; fin_cases a <;> exact Subsingleton.elim (α := Fin 1) _ _

/-- The one element is at most `u` exactly when all are. -/
theorem extract_le (v : S1x1x1.Idx → EReal) (u : EReal) : extractAt ![0, 0, 0] v inpos_S1x1x1_p0_0_0 ≤ u ↔ ∀ j, v j ≤ u :=
  ⟨fun h j => (congrArg v (one_elem j _)).trans_le h, fun h => h _⟩

/-- The greatest element of a slab of running maxima. -/
def topX (v : Vec Ideal S16x1280 .bf16) : EReal :=
  extractAt ![0, 0, 0] (shapeCast S1x1x1 (multiReduction (F := Ideal) .maximumf [1, 2] S1 (shapeCast S1x16x1280 (extf .f32 v bitsLt_bf16_f32 : FVec Ideal S16x1280 .f32) shapeCasts_S16x1280_S1x16x1280) 0xFF800000#32 reduces_S1x16x1280_S1 (.inl rfl) rfl) shapeCasts_S1_S1x1x1) inpos_S1x1x1_p0_0_0
/-- The greatest element of a slab of running maxima. -/
def topY (v : Vec Ideal S16x5120 .bf16) : EReal :=
  extractAt ![0, 0, 0] (shapeCast S1x1x1 (multiReduction (F := Ideal) .maximumf [1, 2] S1 (shapeCast S1x16x5120 (extf .f32 v bitsLt_bf16_f32 : FVec Ideal S16x5120 .f32) shapeCasts_S16x5120_S1x16x5120) 0xFF800000#32 reduces_S1x16x5120_S1 (.inl rfl) rfl) shapeCasts_S1_S1x1x1) inpos_S1x1x1_p0_0_0
theorem topX_le (v : Vec Ideal S16x1280 .bf16) (u : EReal) : topX v ≤ u ↔ ∀ j, (v j : EReal) ≤ u := by
  unfold topX
  refine (extract_le _ u).trans ?_
  refine (forall_shapeCast (t := S1x1x1) _ shapeCasts_S1_S1x1x1 fun a : EReal => a ≤ u).trans ?_
  refine (multiReduction_le (s := S1x16x1280) (t := S1) (φ := .f32) _ _ _ _ _ bot32 u).trans ?_
  exact forall_shapeCast (extf .f32 v bitsLt_bf16_f32 : FVec Ideal S16x1280 .f32) shapeCasts_S16x1280_S1x16x1280 fun a : EReal => a ≤ u

theorem topY_le (v : Vec Ideal S16x5120 .bf16) (u : EReal) : topY v ≤ u ↔ ∀ j, (v j : EReal) ≤ u := by
  unfold topY
  refine (extract_le _ u).trans ?_
  refine (forall_shapeCast (t := S1x1x1) _ shapeCasts_S1_S1x1x1 fun a : EReal => a ≤ u).trans ?_
  refine (multiReduction_le (s := S1x16x5120) (t := S1) (φ := .f32) _ _ _ _ _ bot32 u).trans ?_
  exact forall_shapeCast (extf .f32 v bitsLt_bf16_f32 : FVec Ideal S16x5120 .f32) shapeCasts_S16x5120_S1x16x5120 fun a : EReal => a ≤ u

/-! ## The reference's maxima -/

theorem absf_extf {s : Shape} (v : FVec Ideal s .bf16) (h) (i : s.Idx) : (Host.absf (extf .f32 v h : FVec Ideal s .f32) i : EReal) = max (v i : EReal) (-(v i)) := rfl
theorem mulf_apply {s : Shape} (a b : FVec Ideal s .f32) (i : s.Idx) : (mulf a b i : EReal) = a i * b i := rfl
theorem constant_apply {s : Shape} (w : BitVec 32) (i : s.Idx) : (constant (F := Ideal) s .f32 w i : EReal) = Ideal.ofBits .f32 w := rfl
theorem smulf_apply (a b : Ideal .f32) : (Scalar.mulf a b : EReal) = (a : EReal) * b := rfl
theorem sofBits_apply (w : BitVec 32) : (Scalar.ofBits (F := Ideal) .f32 w : EReal) = Ideal.ofBits .f32 w := rfl

@[irreducible] def hX (X : Vec Ideal S4x6144x1280 .bf16) : FVec Ideal Cert.ReferenceIdeal.S_ .f32 :=
  Host.reduce FloatOps.maximumf (Host.absf (extf .f32 X Cert.ReferenceIdeal.Gen.bitsLt_bf16_f32)) (constant Cert.ReferenceIdeal.S_ .f32 0xFF800000#32) Cert.ReferenceIdeal.Gen.reducesTo_S4x6144x1280_S_d0_1_2 Cert.ReferenceIdeal.Gen.h_S_

theorem hX_le (j : Cert.ReferenceIdeal.S_.Idx) (u : EReal) : (hX X j : EReal) ≤ u ↔ AbsLe X u := by
  refine Iff.trans ⟨fun h i => (congrArg (hX X) (Subsingleton.elim i j)).trans_le h, fun h => h _⟩ ?_
  unfold hX
  refine (reduce_le _ _ _ _ bot32 u).trans ?_
  exact forall_congr' fun i => by rw [absf_extf]

theorem hX_nonneg (j : Cert.ReferenceIdeal.S_.Idx) : (0 : EReal) ≤ hX X j :=
  (abs_nonneg _).trans ((hX_le X j _).mp le_rfl (ix3 0 0 0))

@[irreducible] def hY (Y : Vec Ideal S4x6144x5120 .bf16) : FVec Ideal Cert.ReferenceIdeal.S_ .f32 :=
  Host.reduce FloatOps.maximumf (Host.absf (extf .f32 Y Cert.ReferenceIdeal.Gen.bitsLt_bf16_f32)) (constant Cert.ReferenceIdeal.S_ .f32 0xFF800000#32) Cert.ReferenceIdeal.Gen.reducesTo_S4x6144x5120_S_d0_1_2 Cert.ReferenceIdeal.Gen.h_S_

theorem hY_le (j : Cert.ReferenceIdeal.S_.Idx) (u : EReal) : (hY Y j : EReal) ≤ u ↔ AbsLe Y u := by
  refine Iff.trans ⟨fun h i => (congrArg (hY Y) (Subsingleton.elim i j)).trans_le h, fun h => h _⟩ ?_
  unfold hY
  refine (reduce_le _ _ _ _ bot32 u).trans ?_
  exact forall_congr' fun i => by rw [absf_extf]

theorem hY_nonneg (j : Cert.ReferenceIdeal.S_.Idx) : (0 : EReal) ≤ hY Y j :=
  (abs_nonneg _).trans ((hY_le Y j _).mp le_rfl (ix3 0 0 0))

theorem kx_nonneg : (0 : EReal) ≤ Ideal.ofBits .f32 0x3B124925#32 := by
  show 0 ≤ Ideal.ieee 8 23 0x3B124925#32
  simp [Ideal.ieee]
  norm_cast
  positivity
theorem ky_nonneg : (0 : EReal) ≤ Ideal.ofBits .f32 0x37924925#32 := by
  show 0 ≤ Ideal.ieee 8 23 0x37924925#32
  simp [Ideal.ieee]
  norm_cast
  positivity

end Cert.KernelIdeal.Amax

end
-- ==== Proof.AmaxValue.lean ====
/- What the maximum kernel leaves in its two results over the extended reals: the reference's scales. -/
module

public import proofs.«01_k».proof.Proof.MaxBounds
public import Idealize.ShloMosaic.Lib.Pipeline.ValueKit

@[expose] public section

set_option maxRecDepth 16384

noncomputable section

namespace Cert.KernelIdeal.Amax

open Cert.KernelIdeal Cert.KernelIdeal.Gen
open Idealize.ShloMosaic Idealize.ShloMosaic.TcCoe Idealize.SL.Sem
open Idealize.ShloMosaic.Pipeline (Dat)
open Cert.MaxFold
open Cert.ReferenceIdeal.Hand (hostScale hostMaxX hostMaxDy)

variable (V : (c : Dev nD) → (b : Ref sig .tc) → Buf (Elt Ideal) ((c : Thread nD τ).loc b)) (c : Dev nD)
  (X : Vec Ideal S4x6144x1280 .bf16) (Y : Vec Ideal S4x6144x5120 .bf16)

/-! ## The two scales -/

theorem hostMaxX_apply (j : Cert.ReferenceIdeal.S_.Idx) : hostMaxX X j = hX X j * Ideal.ofBits .f32 0x3B124925#32 := by
  unfold hostMaxX hX
  rw [mulf_apply, constant_apply]

theorem xScale_top (v : Vec Ideal S16x1280 .bf16) : xScale (F := Ideal) v = scaleOfField (F := Ideal) (field (F := Ideal) (topX v * Ideal.ofBits .f32 0x3B124925#32 : EReal)) := by
  unfold xScale k0_pay9 topX
  dsimp only
  rw [smulf_apply, sofBits_apply]

theorem xScale_eq (hV : V c main_v0 = shapeCast S24576x1280 X shapeCasts_S4x6144x1280_S24576x1280) (j : Cert.ReferenceIdeal.S_.Idx) :
    xScale (F := Ideal) (mx V c 47) = hostScale (hostMaxX X) j := by
  have e : topX (mx V c 47) = hX X j := by
    refine eq_of_forall_ge_iff fun u => ?_
    rw [topX_le, mx_le, xb_le, hV, hX_le]
    exact absLe_shapeCast X shapeCasts_S4x6144x1280_S24576x1280 u
  rw [Cert.Scale.hostScale_apply, xScale_top, e, hostMaxX_apply]
  exact Cert.Scale.scale_eq _ (mul_nonneg (hX_nonneg X j) kx_nonneg)

theorem hostMaxDy_apply (j : Cert.ReferenceIdeal.S_.Idx) : hostMaxDy Y j = hY Y j * Ideal.ofBits .f32 0x37924925#32 := by
  unfold hostMaxDy hY
  rw [mulf_apply, constant_apply]

theorem dyScale_top (v : Vec Ideal S16x5120 .bf16) : dyScale (F := Ideal) v = scaleOfField (F := Ideal) (field (F := Ideal) (topY v * Ideal.ofBits .f32 0x37924925#32 : EReal)) := by
  unfold dyScale k0_pay15 k0_pay8 topY
  dsimp only
  rw [smulf_apply, sofBits_apply]

theorem dyScale_eq (hV : V c main_v1 = shapeCast S24576x5120 Y shapeCasts_S4x6144x5120_S24576x5120) (j : Cert.ReferenceIdeal.S_.Idx) :
    dyScale (F := Ideal) (my V c 47) = hostScale (hostMaxDy Y) j := by
  have e : topY (my V c 47) = hY Y j := by
    refine eq_of_forall_ge_iff fun u => ?_
    rw [topY_le, my_le, db_le, hV, hY_le]
    exact absLe_shapeCast Y shapeCasts_S4x6144x5120_S24576x5120 u
  rw [Cert.Scale.hostScale_apply, dyScale_top, e, hostMaxDy_apply]
  exact Cert.Scale.scale_eq _ (mul_nonneg (hY_nonneg Y j) ky_nonneg)

theorem arr2_of (z : Elt Ideal .f32) (hz : xScale (F := Ideal) (mx V c 47) = z) : (dat V c).arrAt 2 cfg0.N = fun _ => z := by
  refine (dat V c).arrAt_eq_of_covers 2 _ (by decide +kernel) fun t hf y => ?_
  have h : (dat V c).after 2 t = fun _ => z := by rw [after0_2, (flush2 t).mp hf, hz]
  blk_simp
  rw [h]

theorem arr2 (hV : V c main_v0 = shapeCast S24576x1280 X shapeCasts_S4x6144x1280_S24576x1280) (j : Cert.ReferenceIdeal.S_.Idx) :
    (dat V c).arrAt 2 cfg0.N = fun _ => hostScale (hostMaxX X) j :=
  arr2_of V c _ (xScale_eq V c X hV j)

theorem arr3_of (z : Elt Ideal .f32) (hz : dyScale (F := Ideal) (my V c 47) = z) : (dat V c).arrAt 3 cfg0.N = fun _ => z := by
  refine (dat V c).arrAt_eq_of_covers 3 _ (by decide +kernel) fun t hf y => ?_
  have h : (dat V c).after 3 t = fun _ => z := by rw [after0_3, (flush3 t).mp hf, hz]
  blk_simp
  rw [h]

theorem arr3 (hV : V c main_v1 = shapeCast S24576x5120 Y shapeCasts_S4x6144x5120_S24576x5120) (j : Cert.ReferenceIdeal.S_.Idx) :
    (dat V c).arrAt 3 cfg0.N = fun _ => hostScale (hostMaxDy Y) j :=
  arr3_of V c _ (dyScale_eq V c Y hV j)

end Cert.KernelIdeal.Amax

end
-- ==== Proof.ProductValue.lean ====
/- What the product kernel leaves in its three results, element by element over the extended reals. -/
module

public import proofs.«01_k».proof.Proof.ProductFrameIdeal
public import proofs.«01_k».proof.Proof.RefValue
public import Idealize.ShloMosaic.Lib.Pipeline.ValueKit
public import Idealize.ShloMosaic.Lib.Claim

@[expose] public section

set_option maxRecDepth 16384

noncomputable section

namespace Cert.KernelIdeal.Product

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)
  (X : Vec Ideal S4x6144x1280 .bf16) (Y : Vec Ideal S4x6144x5120 .bf16) (sx sy : Elt Ideal .f32)

/-! ## Where the windows stand -/

theorem index0 : ∀ t : Fin grid1.N, win1_0.index t 0 = 0 := by decide +kernel
theorem index1 : ∀ t : Fin grid1.N, win1_1.index t 0 = 0 := by decide +kernel
theorem index2 : ∀ t : Fin grid1.N, t.val < 120 → win1_2.index t 0 = t.val / 10 ∧ win1_2.index t 1 = t.val % 10 := by decide +kernel
theorem index3 : ∀ t : Fin grid1.N, 10 ≤ t.val → win1_3.index t 0 = t.val / 10 - 1 ∧ win1_3.index t 1 = t.val % 10 := by decide +kernel
theorem index4 : ∀ t : Fin grid1.N, 120 ≤ t.val → win1_4.index t 0 = 0 ∧ win1_4.index t 1 = t.val % 10 := by decide +kernel
theorem index5 : ∀ t : Fin grid1.N, win1_5.index t 0 = min t.val 119 % 10 ∧ win1_5.index t 1 = min t.val 119 / 10 := by decide +kernel
theorem index6 : ∀ t : Fin grid1.N, 10 ≤ t.val → win1_6.index t 0 = t.val % 10 ∧ win1_6.index t 1 = t.val / 10 - 1 := by decide +kernel

/-! ## The blocks of the inputs -/

/-- What the product kernel finds: the two scales, and x and dy with their rows in one axis. -/
structure Entry : Prop where
  xs : ∀ i : S1.Idx, (V c main_v2_0 : S1.Idx → Elt Ideal .f32) i = sx
  ds : ∀ i : S1.Idx, (V c main_v2_1 : S1.Idx → Elt Ideal .f32) i = sy
  x : ∀ (r : Fin 24576) (j : Fin 1280), (V c main_v0 : S24576x1280.Idx → Elt Ideal .bf16) (ix2 r j) = X (ix3 ⟨r.val / 6144, by omega⟩ ⟨r.val % 6144, by omega⟩ j)
  dy : ∀ (r : Fin 24576) (j : Fin 5120), (V c main_v1 : S24576x5120.Idx → Elt Ideal .bf16) (ix2 r j) = Y (ix3 ⟨r.val / 6144, by omega⟩ ⟨r.val % 6144, by omega⟩ j)

variable (H : Entry V c X Y sx sy)
include H

theorem xs_eq (t : Fin cfg1.N) : xs V c t = sx := by
  unfold xs sc iblk
  exact H.xs _

theorem ds_eq (t : Fin cfg1.N) : ds V c t = sy := by
  unfold ds sc iblk
  exact H.ds _

theorem xb_apply (t : Fin cfg1.N) (ht : t.val < 120) (r : Fin 2048) (j : Fin 128) : xb V c t (ix2 r j) =
    X (ix3 ⟨(2048 * (t.val / 10) + r.val) / 6144, by omega⟩ ⟨(2048 * (t.val / 10) + r.val) % 6144, by omega⟩
      ⟨128 * (t.val % 10) + j.val, by omega⟩) := by
  obtain ⟨h0, h1⟩ := index2 t ht
  rw [← H.x ⟨2048 * (t.val / 10) + r.val, by omega⟩ ⟨128 * (t.val % 10) + j.val, by omega⟩]
  blk_ext! [xb, iblk, h0, h1]

theorem db_apply (t : Fin cfg1.N) (ht : 10 ≤ t.val) (r : Fin 2048) (j : Fin 512) : db V c t (ix2 r j) =
    Y (ix3 ⟨(2048 * (t.val / 10 - 1) + r.val) / 6144, by have := lt_N t; omega⟩ ⟨(2048 * (t.val / 10 - 1) + r.val) % 6144, by omega⟩
      ⟨512 * (t.val % 10) + j.val, by omega⟩) := by
  obtain ⟨h0, h1⟩ := index3 t ht
  rw [← H.dy ⟨2048 * (t.val / 10 - 1) + r.val, by have := lt_N t; omega⟩ ⟨512 * (t.val % 10) + j.val, by omega⟩]
  blk_ext! [db, iblk, h0, h1]

omit H
/-! ## The body's values at an index -/

/-- The clip bounds are the same numbers in both formats. -/
theorem hi_x : Ideal.ofBits .bf16 17376#16 = Ideal.ofBits .f32 1138753536#32 := by
  simp [Ideal.ofBits, Ideal.ieee]
  norm_cast
  norm_num
theorem lo_x : Ideal.ofBits .bf16 50144#16 = Ideal.ofBits .f32 3286237184#32 := by
  simp [Ideal.ofBits, Ideal.ieee]
  norm_cast
  norm_num
theorem hi_dy : Ideal.ofBits .bf16 18272#16 = Ideal.ofBits .f32 1197473792#32 := by
  simp [Ideal.ofBits, Ideal.ieee]
  norm_cast
  norm_num
theorem lo_dy : Ideal.ofBits .bf16 51040#16 = Ideal.ofBits .f32 3344957440#32 := by
  simp [Ideal.ofBits, Ideal.ieee]
  norm_cast
  norm_num

/-- The codes as the reference has them, whole. -/
abbrev qx (X : Vec Ideal S4x6144x1280 .bf16) (sx : Elt Ideal .f32) (i : Fin 1280) (k : Fin 24576) : EReal :=
  ReferenceIdeal.Gen.k0_pay1 (F := Ideal) sx X (ix2 i k)
abbrev qy (Y : Vec Ideal S4x6144x5120 .bf16) (sy : Elt Ideal .f32) (i : Fin 5120) (k : Fin 24576) : EReal :=
  ReferenceIdeal.Gen.k0_pay2 (F := Ideal) sy Y (ix2 i k)

include H
/-- The block of x's codes a point of the first twelve grid rows makes. -/
theorem xq_apply (t : Fin cfg1.N) (ht : t.val < 120) (j : S128x2048.Idx) :
    k1_pay1 (xb V c t) (xs V c t) j = qx X sx ⟨128 * (t.val % 10) + (j 0).val, by have : (j 0).val < 128 := (j 0).isLt; omega⟩
      ⟨2048 * (t.val / 10) + (j 1).val, by have : (j 1).val < 2048 := (j 1).isLt; omega⟩ := by
  rw [qx, ReferenceIdeal.Hand.pay1_apply, xs_eq V c X Y sx sy H]
  pointwise [k1_pay1]
  rw [hi_x, lo_x, xb_apply V c X Y sx sy H t ht (j 1) (j 0)]

/-- The block of dy's codes a point of the last twelve grid rows makes. -/
theorem dq_apply (t : Fin cfg1.N) (ht : 10 ≤ t.val) (j : S512x2048.Idx) :
    dq V c t j = qy Y sy ⟨512 * (t.val % 10) + (j 0).val, by have : (j 0).val < 512 := (j 0).isLt; omega⟩
      ⟨2048 * (t.val / 10 - 1) + (j 1).val, by have : (j 1).val < 2048 := (j 1).isLt; have := lt_N t; omega⟩ := by
  rw [qy, ReferenceIdeal.Hand.pay2_apply, dq, ds_eq V c X Y sx sy H]
  pointwise [k1_pay7, k1_pay5, k1_pay6]
  rw [hi_dy, lo_dy, db_apply V c X Y sx sy H t ht (j 1) (j 0)]

/-- The slab grid row `s` fills: all columns of x at its 2048 rows. -/
theorem slab_apply (s : ℕ) (hs : s < 12) (i : Fin 1280) (r : Fin 2048) :
    slab V c s (ix3 0 i r) = qx X sx i ⟨2048 * s + r.val, by omega⟩ := by
  have hm : (10 * s + i.val / 128) % 130 = 10 * s + i.val / 128 := Nat.mod_eq_of_lt (by omega)
  unfold slab
  show k1_pay2 (xb V c (pt (10 * s + i.val / 128))) (xs V c (pt (10 * s + i.val / 128))) (ix3 0 ⟨i.val % 128, _⟩ r) = _
  pointwise [k1_pay2]
  rw [xq_apply V c X Y sx sy H (pt (10 * s + i.val / 128)) (by show (10 * s + i.val / 128) % 130 < 120; omega)]
  refine congrArg₂ (qx X sx) (Fin.ext ?_) (Fin.ext ?_)
  · show 128 * ((10 * s + i.val / 128) % 130 % 10) + i.val % 128 = i.val
    omega
  · show 2048 * ((10 * s + i.val / 128) % 130 / 10) + r.val = 2048 * s + r.val
    omega

omit H
/-- One term of a product element, by its row number. -/
def term (i : Fin 1280) (j : Fin 5120) (q : ℕ) : EReal :=
  if h : q < 24576 then qx X sx i ⟨q, h⟩ * qy Y sy j ⟨q, h⟩ else 0

include H
/-- One product of the grid: 2048 terms. -/
theorem pay8_apply (n k : ℕ) (hn : n < 10) (hk : k < 12) (i : Fin 1280) (j : Fin 512) :
    k1_pay8 (db V c (pt (10 * (k + 1) + n))) (ds V c (pt (10 * (k + 1) + n))) (slab V c k) (ix2 i j)
      = ∑ r ∈ Finset.range 2048, term X Y sx sy i ⟨512 * n + j.val, by omega⟩ (2048 * k + r) := by
  have hm : (10 * (k + 1) + n) % 130 = 10 * (k + 1) + n := Nat.mod_eq_of_lt (by omega)
  rw [Finset.sum_range]
  pointwise [k1_pay8, k1_pay5, k1_pay6]
  refine Finset.sum_congr rfl fun r _ => ?_
  rw [slab_apply V c X Y sx sy H k hk, term, dif_pos (by omega), hi_dy, lo_dy, qy, ReferenceIdeal.Hand.pay2_apply,
    db_apply V c X Y sx sy H (pt (10 * (k + 1) + n)) (by show 10 ≤ (10 * (k + 1) + n) % 130; omega) r j, ds_eq V c X Y sx sy H]
  have h1 : (10 * (k + 1) + n) % 130 / 10 - 1 = k := by omega
  have h2 : (10 * (k + 1) + n) % 130 % 10 = n := by omega
  simp only [h1, h2]
  rfl

/-- The accumulator: the terms of all rows so far. -/
theorem acc_apply (n : ℕ) (hn : n < 10) (i : Fin 1280) (j : Fin 512) : ∀ k, k < 12 →
    acc V c n k (ix3 0 i j) = ∑ q ∈ Finset.range (2048 * (k + 1)), term X Y sx sy i ⟨512 * n + j.val, by omega⟩ q
  | 0, hk => by
    unfold acc prod
    pointwise [k1_pay3]
    rw [pay8_apply V c X Y sx sy H n 0 hn hk]
    simp
  | k + 1, hk => by
    unfold acc
    pointwise [k1_pay3]
    rw [acc_apply n hn i j k (by omega), show 2048 * (k + 1 + 1) = 2048 * (k + 1) + 2048 by ring, Finset.sum_range_add,
      pay8_apply V c X Y sx sy H n (k + 1) hn hk]

/-! ## The three results -/

theorem arr5 : (dat V c).arrAt 5 cfg1.N =
    ReferenceIdeal.Gen.k0_pay1 (F := Ideal) sx X := by
  refine (dat V c).arrAt_eq_of_covers 5 _ (by decide +kernel) fun t hf y => ?_
  have hN := lt_N t
  obtain ⟨h0, h1⟩ := index5 t
  have hm : min t.val 119 % 130 = min t.val 119 := Nat.mod_eq_of_lt (by omega)
  blk_simp
  rw [after1_5, xq, xq_apply V c X Y sx sy H _ (by show min t.val 119 % 130 < 120; omega)]
  unfold qx
  generalize ReferenceIdeal.Gen.k0_pay1 (F := Ideal) sx X = G
  blk_ext! [h0, h1, hm]

theorem arr6 : (dat V c).arrAt 6 cfg1.N =
    ReferenceIdeal.Gen.k0_pay2 (F := Ideal) sy Y := by
  refine (dat V c).arrAt_eq_of_covers 6 _ (by decide +kernel) fun t hf y => ?_
  have ht := (flush6 t).mp hf
  obtain ⟨h0, h1⟩ := index6 t ht
  blk_simp
  rw [after1_6, dq_apply V c X Y sx sy H t ht]
  unfold qy
  generalize ReferenceIdeal.Gen.k0_pay2 (F := Ideal) sy Y = G
  blk_ext! [h0, h1]

theorem arr4 : (dat V c).arrAt 4 cfg1.N =
    ReferenceIdeal.Gen.k0_pay3 (F := Ideal) sx sy X Y := by
  refine (dat V c).arrAt_eq_of_covers 4 _ (by decide +kernel) fun t hf y => ?_
  have ht := (flush4 t).mp hf
  have hN := lt_N t
  obtain ⟨h0, h1⟩ := index4 t ht
  blk_simp
  rw [after1_4, dw, ReferenceIdeal.Hand.pay3_apply, xs_eq V c X Y sx sy H, ds_eq V c X Y sx sy H]
  pointwise [k1_pay4]
  have hy0 : (y 0).val < 1280 := (y 0).isLt
  have hy1 : (y 1).val < 512 := (y 1).isLt
  have e0 : (((View.whole main_v3_0).slice (win1_4.rect t)).emb y 0 : Fin 1280) = ⟨(y 0).val, hy0⟩ := Fin.ext (by
    show win1_4.index t 0 * 1280 + 1 * (y 0).val = (y 0).val
    rw [h0]; omega)
  have e1 : (((View.whole main_v3_0).slice (win1_4.rect t)).emb y 1 : Fin 5120) = (⟨512 * (t.val % 10) + (y 1).val, by omega⟩ : Fin 5120) := Fin.ext (by
    show win1_4.index t 1 * 512 + 1 * (y 1).val = 512 * (t.val % 10) + (y 1).val
    rw [h1]; omega)
  refine congrArg (· * (sx * sy)) ?_
  refine (acc_apply V c X Y sx sy H (t.val % 10) (by omega) ⟨(y 0).val, hy0⟩ ⟨(y 1).val, hy1⟩ 11 (by omega)).trans ?_
  rw [Finset.sum_range]
  refine Finset.sum_congr rfl fun q _ => ?_
  rw [term, dif_pos (lt_of_lt_of_eq q.isLt (by norm_num))]
  exact (congrArg₂ (fun a b => qx X sx a q * qy Y sy b q) e0 e1).symm

end Cert.KernelIdeal.Product

end
-- ==== Proof.WholeValue.lean ====
/- What the whole kernel leaves in its five results over the extended reals: the reference's payloads of the arguments and their scales. -/
module

public import proofs.«01_k».proof.Proof.WholeIdeal
public import proofs.«01_k».proof.Proof.AmaxValue
public import proofs.«01_k».proof.Proof.ProductValue

@[expose] public section

set_option maxRecDepth 16384

noncomputable section

namespace Cert.KernelIdeal.Whole

open Cert.KernelIdeal Cert.KernelIdeal.Gen
open Idealize.ShloMosaic Idealize.ShloMosaic.TcCoe Idealize.SL.Sem
open Cert.ReferenceIdeal.Hand (hostScale hostMaxX hostMaxDy)

variable (m : (ℓ : Loc nD τ sig) → Buf (Elt Ideal) ℓ) (ρ : Dev nD → PrngReg) (c : Dev nD)
  (X : Vec Ideal S4x6144x1280 .bf16) (Y : Vec Ideal S4x6144x5120 .bf16)

/-! ## The operands as both calls find them -/

theorem V1_x (hX : m ((c : Thread nD τ).loc main_arg0) = X) : V1 m ρ c main_v0 = shapeCast S24576x1280 X shapeCasts_S4x6144x1280_S24576x1280 := by
  show StableHlo.after hostOps0 (W0 m ρ c) _ = _
  simp only [hostOps0]
  after_results_simp
  rw [← hX]
  rfl

theorem V1_dy (hY : m ((c : Thread nD τ).loc main_arg1) = Y) : V1 m ρ c main_v1 = shapeCast S24576x5120 Y shapeCasts_S4x6144x5120_S24576x5120 := by
  show StableHlo.after hostOps0 (W0 m ρ c) _ = _
  simp only [hostOps0]
  after_results_simp
  rw [← hY]
  rfl

/-! A row of the reshaped operand is a row of one of its four parts. -/

theorem rows_x (A : S4x6144x1280.Idx → EReal) (r : Fin 24576) (j : Fin 1280) :
    shapeCast S24576x1280 A shapeCasts_S4x6144x1280_S24576x1280 (ix2 r j) = A (ix3 ⟨r.val / 6144, by omega⟩ ⟨r.val % 6144, by omega⟩ j) := by
  pointwise

theorem rows_dy (A : S4x6144x5120.Idx → EReal) (r : Fin 24576) (j : Fin 5120) :
    shapeCast S24576x5120 A shapeCasts_S4x6144x5120_S24576x5120 (ix2 r j) = A (ix3 ⟨r.val / 6144, by omega⟩ ⟨r.val % 6144, by omega⟩ j) := by
  pointwise

/-! ## The scales -/

/-- The scale of x and of dy, as the reference computes them. -/
def sx : Elt Ideal .f32 := hostScale (hostMaxX X) (Shape.Idx.first Cert.ReferenceIdeal.Gen.h_S_)
def sy : Elt Ideal .f32 := hostScale (hostMaxDy Y) (Shape.Idx.first Cert.ReferenceIdeal.Gen.h_S_)

theorem amax2 (hX : m ((c : Thread nD τ).loc main_arg0) = X) : (Amax.dat (V1 m ρ) c).arrAt 2 cfg0.N = fun _ => sx X :=
  Amax.arr2 (V1 m ρ) c X (V1_x m ρ c X hX) _
theorem amax3 (hY : m ((c : Thread nD τ).loc main_arg1) = Y) : (Amax.dat (V1 m ρ) c).arrAt 3 cfg0.N = fun _ => sy Y :=
  Amax.arr3 (V1 m ρ) c Y (V1_dy m ρ c Y hY) _

/-- What the product kernel finds. -/
theorem entry (hX : m ((c : Thread nD τ).loc main_arg0) = X) (hY : m ((c : Thread nD τ).loc main_arg1) = Y) :
    Product.Entry (V2 m ρ) c X Y (sx X) (sy Y) where
  xs i := congrFun ((V2_xs m ρ c).trans (amax2 m ρ c X hX)) i
  ds i := congrFun ((V2_ds m ρ c).trans (amax3 m ρ c Y hY)) i
  x r j := (congrFun ((V2_x m ρ c).trans (V1_x m ρ c X hX)) _).trans (rows_x X r j)
  dy r j := (congrFun ((V2_dy m ρ c).trans (V1_dy m ρ c Y hY)) _).trans (rows_dy Y r j)

/-! ## The results -/

/-- Every execution ends with the results at the reference's payloads of the arguments and their scales, the arguments unchanged. -/
theorem run_values : θ_run defs (onTc (τ := τ) (main (F := Ideal))) ⟨m, fun _ => 0, ρ⟩ (fun r => ∀ c : Dev nD,
      r.2.mem ((c.tc : Thread nD τ).loc main_v3_0) = ReferenceIdeal.Gen.k0_pay3 (F := Ideal) (sx (m ((c : Thread nD τ).loc main_arg0))) (sy (m ((c : Thread nD τ).loc main_arg1)))
        (m ((c : Thread nD τ).loc main_arg0)) (m ((c : Thread nD τ).loc main_arg1))
      ∧ r.2.mem ((c.tc : Thread nD τ).loc main_v3_1) = ReferenceIdeal.Gen.k0_pay1 (F := Ideal) (sx (m ((c : Thread nD τ).loc main_arg0))) (m ((c : Thread nD τ).loc main_arg0))
      ∧ r.2.mem ((c.tc : Thread nD τ).loc main_v2_0) = (fun _ => sx (m ((c : Thread nD τ).loc main_arg0)))
      ∧ r.2.mem ((c.tc : Thread nD τ).loc main_v3_2) = ReferenceIdeal.Gen.k0_pay2 (F := Ideal) (sy (m ((c : Thread nD τ).loc main_arg1))) (m ((c : Thread nD τ).loc main_arg1))
      ∧ r.2.mem ((c.tc : Thread nD τ).loc main_v2_1) = (fun _ => sy (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    have a4 : W3 m ρ c _ = _ := W3_arr m ρ c 4
    have a5 : W3 m ρ c _ = _ := W3_arr m ρ c 5
    have a6 : W3 m ρ c _ = _ := W3_arr m ρ c 6
    ⟨((h.1 c _ (mem_uc main_v3_0 (by decide))).trans a4).trans (Product.arr4 (V2 m ρ) c _ _ _ _ (entry m ρ c _ _ rfl rfl)),
     ((h.1 c _ (mem_uc main_v3_1 (by decide))).trans a5).trans (Product.arr5 (V2 m ρ) c _ _ _ _ (entry m ρ c _ _ rfl rfl)),
     ((h.1 c _ (mem_uc main_v2_0 (by decide))).trans ((W3_of m ρ c main_v2_0 (by decide +kernel)).trans (W2_arr m ρ c 2))).trans (amax2 m ρ c _ rfl),
     ((h.1 c _ (mem_uc main_v3_2 (by decide))).trans a6).trans (Product.arr6 (V2 m ρ) c _ _ _ _ (entry m ρ c _ _ rfl rfl)),
     ((h.1 c _ (mem_uc main_v2_1 (by decide))).trans ((W3_of m ρ c main_v2_1 (by decide +kernel)).trans (W2_arr m ρ c 3))).trans (amax3 m ρ c _ rfl),
     (h.1 c _ (mem_uc main_arg0 (by decide))).trans (W3_main_arg0 m ρ c),
     (h.1 c _ (mem_uc main_arg1 (by decide))).trans (W3_main_arg1 m ρ c)⟩) (run m ρ)

end Cert.KernelIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Kernel.Regions
public import proofs.«01_k».proof.Proof.Gen.KernelIdeal.Regions
public import proofs.«01_k».proof.Proof.Gen.ReferenceIdeal.Value
public import proofs.«01_k».proof.Proof.WholeBits
public import proofs.«01_k».proof.Proof.WholeIdeal
public import proofs.«01_k».proof.Proof.RefValue
public import proofs.«01_k».proof.Proof.WholeValue
public import Idealize.ShloMosaic.Adequacy
public import Idealize.ShloMosaic.Init

@[expose] public section

noncomputable section

namespace Cert.Proof

open Idealize.ShloMosaic Idealize.SL.Sem Cert.Kernel

/-- The kernel's and the reference's five results agree over the extended reals: both are the reference's payloads of the arguments and their scales. -/
theorem algebraic : Cert.algebraic_KernelIdeal_ReferenceIdeal (hKernelIdeal := Cert.KernelIdeal.Gen.facts) (hReferenceIdeal := Cert.ReferenceIdeal.Gen.facts) := by
  intro m g m' g' _ h
  refine ⟨_, _, _, _, _, Cert.KernelIdeal.Whole.run_values m g, ?_⟩
  refine (θ_run _ _ _).mono (fun r hr c => ?_) (Cert.ReferenceIdeal.Hand.run_values m' g')
  obtain ⟨h0, h1, h2, h3, h4, ha⟩ := hr c
  obtain ⟨e0, e1⟩ := h c
  have ex := Cert.ReferenceIdeal.Hand.xsc_eq m' c _ e0
  have ey := Cert.ReferenceIdeal.Hand.dsc_eq m' c _ e1
  rw [e0, e1, ex, ey] at h0
  rw [e0, ex] at h1
  rw [ex] at h2
  rw [e1, ey] at h3
  rw [ey] at h4
  exact ⟨h0, h1, h2, h3, h4, ha⟩

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ, fun m ρ _ => Cert.ReferenceIdeal.Gen.frame m ρ,
  trivial, algebraic⟩

end Cert.Proof

end
